-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  True

def preserves_Reference_ReferenceIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ quiescent_Reference (hReference := hReference)
    ∧ preserves_Kernel_KernelIdeal
    ∧ preserves_Reference_ReferenceIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x256x4x64 .f32 := (extf .f32 · bitsLt_bf16_f32) main_arg2
  let main_v12 : FVec F S2x256x4x64 .f32 := Host.absf main_v11
  let main_cst_2 : FVec F S_ .f32 := constant S_ .f32 0x7F800000#32
  let main_v13 : FVec F S2x256x4x64 .f32 := broadcastInDim S2x256x4x64 ![] bcast_S_S2x256x4x64 main_cst_2
  let main_v14 : IVec S2x256x4x64 1 := cmpf .olt main_v12 main_v13
  let main_c_3 : IVec S_ 1 := constantI S_ 1 1#1
  let main_v15 : IVec S_ 1 := (fun x v => Host.reduce IntOp.andi x v reducesTo_S2x256x4x64_S_d0_1_2_3 h_S_) main_v14 main_c_3
  let main_v16 : IVec S_ 1 := andi main_v10 main_v15
  main_v16
-- ==== Pre_finite_scores_ReferenceIdeal.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_

variable [Facts]

def fn {F : FTy → Type} [FloatOps F] (main_arg0 : FVec F S2x256x512 .bf16) (main_arg1 : FVec F S512x256 .bf16) (main_arg2 : FVec F S2x2048x4x64 .bf16) (main_arg3 : FVec F S2x2048x4x64 .bf16) (main_arg4 : FVec F S256x512 .bf16) : IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x2048x4x64 .f32 := (extf .f32 · bitsLt_bf16_f32) main_arg2
  let main_v12 : FVec F S2x2048x4x64 .f32 := Host.absf main_v11
  let main_cst_2 : FVec F S_ .f32 := constant S_ .f32 0x7F800000#32
  let main_v13 : FVec F S2x2048x4x64 .f32 := broadcastInDim S2x2048x4x64 ![] bcast_S_S2x2048x4x64 main_cst_2
  let main_v14 : IVec S2x2048x4x64 1 := cmpf .olt main_v12 main_v13
  let main_c_3 : IVec S_ 1 := constantI S_ 1 1#1
  let main_v15 : IVec S_ 1 := (fun x v => Host.reduce IntOp.andi x v reducesTo_S2x2048x4x64_S_d0_1_2_3 h_S_) main_v14 main_c_3
  let main_v16 : IVec S_ 1 := andi main_v10 main_v15
  main_v16
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x128x4x64 : Shape := ⟨4, ![2, 128, 4, 64]⟩
abbrev S4x3 : Shape := ⟨2, ![4, 3]⟩
abbrev S4 : Shape := ⟨1, ![4]⟩
abbrev S_ : Shape := ⟨0, ![]⟩
abbrev S1x1 : Shape := ⟨2, ![1, 1]⟩
abbrev S1 : Shape := ⟨1, ![1]⟩
abbrev S256x384 : Shape := ⟨2, ![256, 384]⟩
abbrev S1x256x512 : Shape := ⟨3, ![1, 256, 512]⟩
abbrev S256x256 : Shape := ⟨2, ![256, 256]⟩
abbrev S256x64 : Shape := ⟨2, ![256, 64]⟩
abbrev S1x256x1x64 : Shape := ⟨4, ![1, 256, 1, 64]⟩
abbrev S1x128x1x64 : Shape := ⟨4, ![1, 128, 1, 64]⟩
abbrev S128x64 : Shape := ⟨2, ![128, 64]⟩
abbrev S384x64 : Shape := ⟨2, ![384, 64]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .f32⟩
  | .local _ .vmem, ⟨6, _⟩ => ⟨S2x256x4x64, .bf16⟩
  | .local _ .vmem, ⟨7, _⟩ => ⟨S2x256x4x64, .bf16⟩
  | .local _ .vmem, ⟨8, _⟩ => ⟨S2x128x4x64, .bf16⟩
  | .local _ .vmem, ⟨9, _⟩ => ⟨S2x128x4x64, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .eq v2 c0_i32
  let v5 : BitVec 32 := Scalar.extui v4
  let c0_i32_0 : BitVec 32 := 0#32
  let v6 : BitVec 1 := Scalar.cmpi .ne v5 c0_i32_0
  v6

def k0_dev1 : Nat :=
  let c0_i32_195 : BitVec 32 := 0#32
  let c1_i32_193 : BitVec 32 := 1#32
  let c1_i32_194 : BitVec 32 := 1#32
  let v248 : BitVec 32 := Scalar.muli c1_i32_193 c1_i32_194
  let v249 : BitVec 32 := Scalar.addi c0_i32_195 v248
  v249.toNat
def k0_dev2 : Nat :=
  let c0_i32_218 : BitVec 32 := 0#32
  let c1_i32_216 : BitVec 32 := 1#32
  let c1_i32_217 : BitVec 32 := 1#32
  let v260 : BitVec 32 := Scalar.muli c1_i32_216 c1_i32_217
  let v261 : BitVec 32 := Scalar.addi c0_i32_218 v260
  v261.toNat
def k0_dev3 : Nat :=
  let c0_i32_224 : BitVec 32 := 0#32
  let c1_i32_222 : BitVec 32 := 1#32
  let c1_i32_223 : BitVec 32 := 1#32
  let v266 : BitVec 32 := Scalar.muli c1_i32_222 c1_i32_223
  let v267 : BitVec 32 := Scalar.addi c0_i32_224 v266
  v267.toNat
def k0_dev4 : Nat :=
  let c0_i32_230 : BitVec 32 := 0#32
  let c3_i32_228 : BitVec 32 := 3#32
  let c1_i32_229 : BitVec 32 := 1#32
  let v272 : BitVec 32 := Scalar.muli c3_i32_228 c1_i32_229
  let v273 : BitVec 32 := Scalar.addi c0_i32_230 v272
  v273.toNat
def k0_dev5 : Nat :=
  let c0_i32_236 : BitVec 32 := 0#32
  let c3_i32_234 : BitVec 32 := 3#32
  let c1_i32_235 : BitVec 32 := 1#32
  let v278 : BitVec 32 := Scalar.muli c3_i32_234 c1_i32_235
  let v279 : BitVec 32 := Scalar.addi c0_i32_236 v278
  v279.toNat
def k0_dev6 : Nat :=
  let c0_i32_242 : BitVec 32 := 0#32
  let c4_i32_240 : BitVec 32 := 4#32
  let c1_i32_241 : BitVec 32 := 1#32
  let v284 : BitVec 32 := Scalar.muli c4_i32_240 c1_i32_241
  let v285 : BitVec 32 := Scalar.addi c0_i32_242 v284
  v285.toNat
def k0_dev7 : Nat :=
  let c0_i32_248 : BitVec 32 := 0#32
  let c4_i32_246 : BitVec 32 := 4#32
  let c1_i32_247 : BitVec 32 := 1#32
  let v290 : BitVec 32 := Scalar.muli c4_i32_246 c1_i32_247
  let v291 : BitVec 32 := Scalar.addi c0_i32_248 v290
  v291.toNat
def k0_dev8 : Nat :=
  let c0_i32_266 : BitVec 32 := 0#32
  let c7_i32_264 : BitVec 32 := 7#32
  let c1_i32_265 : BitVec 32 := 1#32
  let v304 : BitVec 32 := Scalar.muli c7_i32_264 c1_i32_265
  let v305 : BitVec 32 := Scalar.addi c0_i32_266 v304
  v305.toNat
def k0_dev9 : Nat :=
  let c0_i32_272 : BitVec 32 := 0#32
  let c7_i32_270 : BitVec 32 := 7#32
  let c1_i32_271 : BitVec 32 := 1#32
  let v310 : BitVec 32 := Scalar.muli c7_i32_270 c1_i32_271
  let v311 : BitVec 32 := Scalar.addi c0_i32_272 v310
  v311.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .eq v2 c1_i32_1
  let v8 : BitVec 32 := Scalar.extui v7
  let c0_i32_2 : BitVec 32 := 0#32
  let v9 : BitVec 1 := Scalar.cmpi .ne v8 c0_i32_2
  v9

def k0_dev10 : Nat :=
  let c0_i32_195 : BitVec 32 := 0#32
  let c0_i32_193 : BitVec 32 := 0#32
  let c1_i32_194 : BitVec 32 := 1#32
  let v248 : BitVec 32 := Scalar.muli c0_i32_193 c1_i32_194
  let v249 : BitVec 32 := Scalar.addi c0_i32_195 v248
  v249.toNat
def k0_dev11 : Nat :=
  let c0_i32_218 : BitVec 32 := 0#32
  let c0_i32_216 : BitVec 32 := 0#32
  let c1_i32_217 : BitVec 32 := 1#32
  let v260 : BitVec 32 := Scalar.muli c0_i32_216 c1_i32_217
  let v261 : BitVec 32 := Scalar.addi c0_i32_218 v260
  v261.toNat
def k0_dev12 : Nat :=
  let c0_i32_224 : BitVec 32 := 0#32
  let c0_i32_222 : BitVec 32 := 0#32
  let c1_i32_223 : BitVec 32 := 1#32
  let v266 : BitVec 32 := Scalar.muli c0_i32_222 c1_i32_223
  let v267 : BitVec 32 := Scalar.addi c0_i32_224 v266
  v267.toNat
def k0_dev13 : Nat :=
  let c0_i32_230 : BitVec 32 := 0#32
  let c2_i32_228 : BitVec 32 := 2#32
  let c1_i32_229 : BitVec 32 := 1#32
  let v272 : BitVec 32 := Scalar.muli c2_i32_228 c1_i32_229
  let v273 : BitVec 32 := Scalar.addi c0_i32_230 v272
  v273.toNat
def k0_dev14 : Nat :=
  let c0_i32_236 : BitVec 32 := 0#32
  let c2_i32_234 : BitVec 32 := 2#32
  let c1_i32_235 : BitVec 32 := 1#32
  let v278 : BitVec 32 := Scalar.muli c2_i32_234 c1_i32_235
  let v279 : BitVec 32 := Scalar.addi c0_i32_236 v278
  v279.toNat
def k0_dev15 : Nat :=
  let c0_i32_242 : BitVec 32 := 0#32
  let c5_i32_240 : BitVec 32 := 5#32
  let c1_i32_241 : BitVec 32 := 1#32
  let v284 : BitVec 32 := Scalar.muli c5_i32_240 c1_i32_241
  let v285 : BitVec 32 := Scalar.addi c0_i32_242 v284
  v285.toNat
def k0_dev16 : Nat :=
  let c0_i32_248 : BitVec 32 := 0#32
  let c5_i32_246 : BitVec 32 := 5#32
  let c1_i32_247 : BitVec 32 := 1#32
  let v290 : BitVec 32 := Scalar.muli c5_i32_246 c1_i32_247
  let v291 : BitVec 32 := Scalar.addi c0_i32_248 v290
  v291.toNat
def k0_dev17 : Nat :=
  let c0_i32_266 : BitVec 32 := 0#32
  let c6_i32_264 : BitVec 32 := 6#32
  let c1_i32_265 : BitVec 32 := 1#32
  let v304 : BitVec 32 := Scalar.muli c6_i32_264 c1_i32_265
  let v305 : BitVec 32 := Scalar.addi c0_i32_266 v304
  v305.toNat
def k0_dev18 : Nat :=
  let c0_i32_272 : BitVec 32 := 0#32
  let c6_i32_270 : BitVec 32 := 6#32
  let c1_i32_271 : BitVec 32 := 1#32
  let v310 : BitVec 32 := Scalar.muli c6_i32_270 c1_i32_271
  let v311 : BitVec 32 := Scalar.addi c0_i32_272 v310
  v311.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .eq v2 c2_i32
  let v11 : BitVec 32 := Scalar.extui v10
  let c0_i32_3 : BitVec 32 := 0#32
  let v12 : BitVec 1 := Scalar.cmpi .ne v11 c0_i32_3
  v12

def k0_dev19 : Nat :=
  let c0_i32_195 : BitVec 32 := 0#32
  let c1_i32_193 : BitVec 32 := 1#32
  let c1_i32_194 : BitVec 32 := 1#32
  let v248 : BitVec 32 := Scalar.muli c1_i32_193 c1_i32_194
  let v249 : BitVec 32 := Scalar.addi c0_i32_195 v248
  v249.toNat
def k0_dev20 : Nat :=
  let c0_i32_199 : BitVec 32 := 0#32
  let c3_i32_197 : BitVec 32 := 3#32
  let c1_i32_198 : BitVec 32 := 1#32
  let v250 : BitVec 32 := Scalar.muli c3_i32_197 c1_i32_198
  let v251 : BitVec 32 := Scalar.addi c0_i32_199 v250
  v251.toNat
def k0_dev21 : Nat :=
  let c0_i32_218 : BitVec 32 := 0#32
  let c3_i32_216 : BitVec 32 := 3#32
  let c1_i32_217 : BitVec 32 := 1#32
  let v260 : BitVec 32 := Scalar.muli c3_i32_216 c1_i32_217
  let v261 : BitVec 32 := Scalar.addi c0_i32_218 v260
  v261.toNat
def k0_dev22 : Nat :=
  let c0_i32_224 : BitVec 32 := 0#32
  let c3_i32_222 : BitVec 32 := 3#32
  let c1_i32_223 : BitVec 32 := 1#32
  let v266 : BitVec 32 := Scalar.muli c3_i32_222 c1_i32_223
  let v267 : BitVec 32 := Scalar.addi c0_i32_224 v266
  v267.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .eq v2 c3_i32
  let v14 : BitVec 32 := Scalar.extui v13
  let c0_i32_4 : BitVec 32 := 0#32
  let v15 : BitVec 1 := Scalar.cmpi .ne v14 c0_i32_4
  v15

def k0_dev23 : Nat :=
  let c0_i32_195 : BitVec 32 := 0#32
  let c0_i32_193 : BitVec 32 := 0#32
  let c1_i32_194 : BitVec 32 := 1#32
  let v248 : BitVec 32 := Scalar.muli c0_i32_193 c1_i32_194
  let v249 : BitVec 32 := Scalar.addi c0_i32_195 v248
  v249.toNat
def k0_dev24 : Nat :=
  let c0_i32_199 : BitVec 32 := 0#32
  let c2_i32_197 : BitVec 32 := 2#32
  let c1_i32_198 : BitVec 32 := 1#32
  let v250 : BitVec 32 := Scalar.muli c2_i32_197 c1_i32_198
  let v251 : BitVec 32 := Scalar.addi c0_i32_199 v250
  v251.toNat
def k0_dev25 : Nat :=
  let c0_i32_218 : BitVec 32 := 0#32
  let c2_i32_216 : BitVec 32 := 2#32
  let c1_i32_217 : BitVec 32 := 1#32
  let v260 : BitVec 32 := Scalar.muli c2_i32_216 c1_i32_217
  let v261 : BitVec 32 := Scalar.addi c0_i32_218 v260
  v261.toNat
def k0_dev26 : Nat :=
  let c0_i32_224 : BitVec 32 := 0#32
  let c2_i32_222 : BitVec 32 := 2#32
  let c1_i32_223 : BitVec 32 := 1#32
  let v266 : BitVec 32 := Scalar.muli c2_i32_222 c1_i32_223
  let v267 : BitVec 32 := Scalar.addi c0_i32_224 v266
  v267.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .eq v2 c4_i32
  let v17 : BitVec 32 := Scalar.extui v16
  let c0_i32_5 : BitVec 32 := 0#32
  let v18 : BitVec 1 := Scalar.cmpi .ne v17 c0_i32_5
  v18

def k0_dev27 : Nat :=
  let c0_i32_195 : BitVec 32 := 0#32
  let c0_i32_193 : BitVec 32 := 0#32
  let c1_i32_194 : BitVec 32 := 1#32
  let v248 : BitVec 32 := Scalar.muli c0_i32_193 c1_i32_194
  let v249 : BitVec 32 := Scalar.addi c0_i32_195 v248
  v249.toNat
def k0_dev28 : Nat :=
  let c0_i32_199 : BitVec 32 := 0#32
  let c5_i32_197 : BitVec 32 := 5#32
  let c1_i32_198 : BitVec 32 := 1#32
  let v250 : BitVec 32 := Scalar.muli c5_i32_197 c1_i32_198
  let v251 : BitVec 32 := Scalar.addi c0_i32_199 v250
  v251.toNat
def k0_dev29 : Nat :=
  let c0_i32_218 : BitVec 32 := 0#32
  let c5_i32_216 : BitVec 32 := 5#32
  let c1_i32_217 : BitVec 32 := 1#32
  let v260 : BitVec 32 := Scalar.muli c5_i32_216 c1_i32_217
  let v261 : BitVec 32 := Scalar.addi c0_i32_218 v260
  v261.toNat
def k0_dev30 : Nat :=
  let c0_i32_224 : BitVec 32 := 0#32
  let c5_i32_222 : BitVec 32 := 5#32
  let c1_i32_223 : BitVec 32 := 1#32
  let v266 : BitVec 32 := Scalar.muli c5_i32_222 c1_i32_223
  let v267 : BitVec 32 := Scalar.addi c0_i32_224 v266
  v267.toNat
def k0_dev31 : Nat :=
  let c0_i32_230 : BitVec 32 := 0#32
  let c7_i32_228 : BitVec 32 := 7#32
  let c1_i32_229 : BitVec 32 := 1#32
  let v272 : BitVec 32 := Scalar.muli c7_i32_228 c1_i32_229
  let v273 : BitVec 32 := Scalar.addi c0_i32_230 v272
  v273.toNat
def k0_dev32 : Nat :=
  let c0_i32_236 : BitVec 32 := 0#32
  let c7_i32_234 : BitVec 32 := 7#32
  let c1_i32_235 : BitVec 32 := 1#32
  let v278 : BitVec 32 := Scalar.muli c7_i32_234 c1_i32_235
  let v279 : BitVec 32 := Scalar.addi c0_i32_236 v278
  v279.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .eq v2 c5_i32
  let v20 : BitVec 32 := Scalar.extui v19
  let c0_i32_6 : BitVec 32 := 0#32
  let v21 : BitVec 1 := Scalar.cmpi .ne v20 c0_i32_6
  v21

def k0_dev33 : Nat :=
  let c0_i32_195 : BitVec 32 := 0#32
  let c1_i32_193 : BitVec 32 := 1#32
  let c1_i32_194 : BitVec 32 := 1#32
  let v248 : BitVec 32 := Scalar.muli c1_i32_193 c1_i32_194
  let v249 : BitVec 32 := Scalar.addi c0_i32_195 v248
  v249.toNat
def k0_dev34 : Nat :=
  let c0_i32_199 : BitVec 32 := 0#32
  let c4_i32_197 : BitVec 32 := 4#32
  let c1_i32_198 : BitVec 32 := 1#32
  let v250 : BitVec 32 := Scalar.muli c4_i32_197 c1_i32_198
  let v251 : BitVec 32 := Scalar.addi c0_i32_199 v250
  v251.toNat
def k0_dev35 : Nat :=
  let c0_i32_218 : BitVec 32 := 0#32
  let c4_i32_216 : BitVec 32 := 4#32
  let c1_i32_217 : BitVec 32 := 1#32
  let v260 : BitVec 32 := Scalar.muli c4_i32_216 c1_i32_217
  let v261 : BitVec 32 := Scalar.addi c0_i32_218 v260
  v261.toNat
def k0_dev36 : Nat :=
  let c0_i32_224 : BitVec 32 := 0#32
  let c4_i32_222 : BitVec 32 := 4#32
  let c1_i32_223 : BitVec 32 := 1#32
  let v266 : BitVec 32 := Scalar.muli c4_i32_222 c1_i32_223
  let v267 : BitVec 32 := Scalar.addi c0_i32_224 v266
  v267.toNat
def k0_dev37 : Nat :=
  let c0_i32_230 : BitVec 32 := 0#32
  let c6_i32_228 : BitVec 32 := 6#32
  let c1_i32_229 : BitVec 32 := 1#32
  let v272 : BitVec 32 := Scalar.muli c6_i32_228 c1_i32_229
  let v273 : BitVec 32 := Scalar.addi c0_i32_230 v272
  v273.toNat
def k0_dev38 : Nat :=
  let c0_i32_236 : BitVec 32 := 0#32
  let c6_i32_234 : BitVec 32 := 6#32
  let c1_i32_235 : BitVec 32 := 1#32
  let v278 : BitVec 32 := Scalar.muli c6_i32_234 c1_i32_235
  let v279 : BitVec 32 := Scalar.addi c0_i32_236 v278
  v279.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .eq v2 c6_i32
  let v23 : BitVec 32 := Scalar.extui v22
  let c0_i32_7 : BitVec 32 := 0#32
  let v24 : BitVec 1 := Scalar.cmpi .ne v23 c0_i32_7
  v24

def k0_dev39 : Nat :=
  let c0_i32_195 : BitVec 32 := 0#32
  let c1_i32_193 : BitVec 32 := 1#32
  let c1_i32_194 : BitVec 32 := 1#32
  let v248 : BitVec 32 := Scalar.muli c1_i32_193 c1_i32_194
  let v249 : BitVec 32 := Scalar.addi c0_i32_195 v248
  v249.toNat
def k0_dev40 : Nat :=
  let c0_i32_199 : BitVec 32 := 0#32
  let c5_i32_197 : BitVec 32 := 5#32
  let c1_i32_198 : BitVec 32 := 1#32
  let v250 : BitVec 32 := Scalar.muli c5_i32_197 c1_i32_198
  let v251 : BitVec 32 := Scalar.addi c0_i32_199 v250
  v251.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .eq v2 c7_i32
  let v26 : BitVec 32 := Scalar.extui v25
  let c0_i32_8 : BitVec 32 := 0#32
  let v27 : BitVec 1 := Scalar.cmpi .ne v26 c0_i32_8
  v27

def k0_dev41 : Nat :=
  let c0_i32_195 : BitVec 32 := 0#32
  let c0_i32_193 : BitVec 32 := 0#32
  let c1_i32_194 : BitVec 32 := 1#32
  let v248 : BitVec 32 := Scalar.muli c0_i32_193 c1_i32_194
  let v249 : BitVec 32 := Scalar.addi c0_i32_195 v248
  v249.toNat
def k0_dev42 : Nat :=
  let c0_i32_199 : BitVec 32 := 0#32
  let c4_i32_197 : BitVec 32 := 4#32
  let c1_i32_198 : BitVec 32 := 1#32
  let v250 : BitVec 32 := Scalar.muli c4_i32_197 c1_i32_198
  let v251 : BitVec 32 := Scalar.addi c0_i32_199 v250
  v251.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference.lean ====
abbrev S2x256x512 : Shape := ⟨3, ![2, 256, 512]⟩
abbrev S512x256 : Shape := ⟨2, ![512, 256]⟩
abbrev S2x2048x4x64 : Shape := ⟨4, ![2, 2048, 4, 64]⟩
abbrev S256x512 : Shape := ⟨2, ![256, 512]⟩
abbrev S2x256x256 : Shape := ⟨3, ![2, 256, 256]⟩
abbrev S2x256x4x64 : Shape := ⟨4, ![2, 256, 4, 64]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S_ : Shape := ⟨0, ![]⟩
abbrev S2x4x256x2048 : Shape := ⟨4, ![2, 4, 256, 2048]⟩
abbrev S1x1x256x2048 : Shape := ⟨4, ![1, 1, 256, 2048]⟩
abbrev S2x4x256 : Shape := ⟨3, ![2, 4, 256]⟩
abbrev S2x4x256x1 : Shape := ⟨4, ![2, 4, 256, 1]⟩
abbrev S1x1x256x1 : Shape := ⟨4, ![1, 1, 256, 1]⟩
abbrev S2x4x64x256 : Shape := ⟨4, ![2, 4, 64, 256]⟩

abbrev nBuf : Space → Nat
  | .hbm => 60
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x2048x4x64, .bf16⟩
  | .hbm, ⟨3, _⟩ => ⟨S2x2048x4x64, .bf16⟩
  | .hbm, ⟨4, _⟩ => ⟨S256x512, .bf16⟩
  | .hbm, ⟨5, _⟩ => ⟨S2x256x256, .f32⟩
  | .hbm, ⟨6, _⟩ => ⟨S2x256x256, .bf16⟩
  | .hbm, ⟨7, _⟩ => ⟨S2x256x4x64, .bf16⟩
  | .hbm, ⟨8, _⟩ => ⟨S256, .i32⟩
  | .hbm, ⟨9, _⟩ => ⟨S256x1, .i32⟩
  | .hbm, ⟨10, _⟩ => ⟨S2048, .i32⟩
  | .hbm, ⟨11, _⟩ => ⟨S1x2048, .i32⟩
  | .hbm, ⟨12, _⟩ => ⟨S256x2048, .i32⟩
  | .hbm, ⟨13, _⟩ => ⟨S256x2048, .i32⟩
  | .hbm, ⟨14, _⟩ => ⟨S256x2048, .i32⟩
  | .hbm, ⟨15, _⟩ => ⟨S256x2048, .i32⟩
  | .hbm, ⟨16, _⟩ => ⟨S_, .i32⟩
  | .hbm, ⟨17, _⟩ => ⟨S256x2048, .i32⟩
  | .hbm, ⟨18, _⟩ => ⟨S256x2048, .i1⟩
  | .hbm, ⟨19, _⟩ => ⟨S2x4x256x2048, .f32⟩
  | .hbm, ⟨20, _⟩ => ⟨S2x4x256x2048, .bf16⟩
  | .hbm, ⟨21, _⟩ => ⟨S2x4x256x2048, .f32⟩
  | .hbm, ⟨22, _⟩ => ⟨S_, .f32⟩
  | .hbm, ⟨23, _⟩ => ⟨S2x4x256x2048, .f32⟩
  | .hbm, ⟨24, _⟩ => ⟨S2x4x256x2048, .f32⟩
  | .hbm, ⟨25, _⟩ => ⟨S1x1x256x2048, .i1⟩
  | .hbm, ⟨26, _⟩ => ⟨S_, .f32⟩
  | .hbm, ⟨27, _⟩ => ⟨S_, .f32⟩
  | .hbm, ⟨28, _⟩ => ⟨S2x4x256x2048, .i1⟩
  | .hbm, ⟨29, _⟩ => ⟨S2x4x256x2048, .f32⟩
  | .hbm, ⟨30, _⟩ => ⟨S2x4x256x2048, .f32⟩
  | .hbm, ⟨31, _⟩ => ⟨S_, .f32⟩
  | .hbm, ⟨32, _⟩ => ⟨S2x4x256, .f32⟩
  | .hbm, ⟨33, _⟩ => ⟨S2x4x256x1, .f32⟩
  | .hbm, ⟨34, _⟩ => ⟨S2x4x256x2048, .f32⟩
  | .hbm, ⟨35, _⟩ => ⟨S2x4x256x2048, .f32⟩
  | .hbm, ⟨36, _⟩ => ⟨S2x4x256x2048, .f32⟩
  | .hbm, ⟨37, _⟩ => ⟨S_, .i1⟩
  | .hbm, ⟨38, _⟩ => ⟨S256, .i1⟩
  | .hbm, ⟨39, _⟩ => ⟨S1x1x256x1, .i1⟩
  | .hbm, ⟨40, _⟩ => ⟨S_, .f32⟩
  | .hbm, ⟨41, _⟩ => ⟨S2x4x256, .f32⟩
  | .hbm, ⟨42, _⟩ => ⟨S2x4x256x1, .f32⟩
  | .hbm, ⟨43, _⟩ => ⟨S_, .f32⟩
  | .hbm, ⟨44, _⟩ => ⟨S_, .f32⟩
  | .hbm, ⟨45, _⟩ => ⟨S2x4x256x1, .i1⟩
  | .hbm, ⟨46, _⟩ => ⟨S2x4x256x1, .f32⟩
  | .hbm, ⟨47, _⟩ => ⟨S2x4x256x1, .f32⟩
  | .hbm, ⟨48, _⟩ => ⟨S2x4x256x2048, .f32⟩
  | .hbm, ⟨49, _⟩ => ⟨S2x4x256x2048, .f32⟩
  | .hbm, ⟨50, _⟩ => ⟨S1x1x256x1, .i1⟩
  | .hbm, ⟨51, _⟩ => ⟨S_, .f32⟩
  | .hbm, ⟨52, _⟩ => ⟨S_, .f32⟩
  | .hbm, ⟨53, _⟩ => ⟨S2x4x256x2048, .i1⟩
  | .hbm, ⟨54, _⟩ => ⟨S2x4x256x2048, .f32⟩
  | .hbm, ⟨55, _⟩ => ⟨S2x4x256x2048, .f32⟩
  | .hbm, ⟨56, _⟩ => ⟨S2x4x64x256, .f32⟩
  | .hbm, ⟨57, _⟩ => ⟨S2x256x4x64, .f32⟩
  | .hbm, ⟨58, _⟩ => ⟨S2x256x256, .f32⟩
  | .hbm, ⟨59, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Proof.KI.Proto.lean ====
/-
The exchange of the two key/value chunks between the eight devices, as a one-round protocol.

Chunk A (`false`) is device 0's whole key/value block, chunk B (`true`) the first half of device 1's. Every other
device receives each chunk once, from the device the tables `src` name, through the send slot `slot` names; a
receiver first hands its landing buffers to its sender through the sender's barrier cell. The cells of a device are its
barrier cell, one receive cell per landing buffer and three send cells per buffer, each used in one round at most.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.BigSepL
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, a duty named by the device that gains -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The tables -/

/-- A landing buffer: its chunk, and whether it holds values (`true`) or keys. -/
abbrev Bf : Type := Bool × Bool
/-- A cell of a device: the barrier (`none`), the receive cell of a buffer, one of its three send cells. -/
abbrev Cl : Type := Option (Bf × Option (Fin 3))
instance : DecidableEq Cl := Option.instDecidableEq
/-- One delivery of a chunk to a device. -/
abbrev Ed : Type := Bool × Dev nD

/-- Who sends a chunk to a device (the chunk's owner: itself). -/
def src : Bool → Dev nD → Dev nD
  | false => ![0, 0, 3, 0, 0, 4, 1, 4]
  | true => ![1, 1, 1, 2, 5, 1, 5, 0]
/-- The sender's slot of that delivery. -/
def slot : Bool → Dev nD → Fin 3
  | false => ![0, 0, 0, 1, 2, 0, 0, 1]
  | true => ![0, 0, 1, 0, 0, 2, 1, 0]
/-- How many deliveries a chunk is away from its owner. -/
def depth : Bool → Dev nD → ℕ
  | false => ![0, 1, 2, 1, 1, 2, 2, 2]
  | true => ![1, 0, 1, 2, 2, 1, 2, 2]
/-- A chunk's owner. -/
def owner : Bool → Dev nD
  | false => 0
  | true => 1
/-- The deliveries a device makes, in its program's order. -/
def outs : Dev nD → List Ed :=
  ![[(false, 1), (false, 3), (false, 4), (true, 7)], [(true, 0), (true, 2), (true, 5), (false, 6)], [(true, 3)], [(false, 2)],
    [(false, 5), (false, 7)], [(true, 4), (true, 6)], [], []]
/-- The deliveries a device is given, in the order it announces itself to their senders. -/
def ins : Dev nD → List Ed :=
  ![[(true, 0)], [(false, 1)], [(true, 2), (false, 2)], [(false, 3), (true, 3)], [(false, 4), (true, 4)], [(true, 5), (false, 5)],
    [(false, 6), (true, 6)], [(true, 7), (false, 7)]]

/-- One duty: the device and cell that have it, and its name. -/
abbrev Duty : Type := Dev nD × Cl × Dev nD
instance : DecidableEq Duty := instDecidableEqProd

abbrev ref : Bf → Ref sig .tc
  | (false, false) => cc0_scratch0
  | (false, true) => cc0_scratch1
  | (true, false) => cc0_scratch2
  | (true, true) => cc0_scratch3

/-- The runtime's barrier semaphore of collective id 0. -/
abbrev barS : Sem sig := (SemArray.scalar (sig.barrier 0 rfl) : Sems sig S_).sem
/-- A buffer's receive semaphore. -/
abbrev rs : Bf → DmaSem sig
  | (false, false) => ⟨18, by decide⟩
  | (false, true) => ⟨19, by decide⟩
  | (true, false) => ⟨20, by decide⟩
  | (true, true) => ⟨21, by decide⟩
/-- A buffer's send semaphore of a slot. -/
abbrev ss : Bf → Fin 3 → DmaSem sig
  | (false, false) => ![⟨6, by decide⟩, ⟨7, by decide⟩, ⟨8, by decide⟩]
  | (false, true) => ![⟨9, by decide⟩, ⟨10, by decide⟩, ⟨11, by decide⟩]
  | (true, false) => ![⟨12, by decide⟩, ⟨13, by decide⟩, ⟨14, by decide⟩]
  | (true, true) => ![⟨15, by decide⟩, ⟨16, by decide⟩, ⟨17, by decide⟩]

abbrev csem : Cl → SemLoc sig
  | none => .reg barS
  | some (b, none) => .dma (rs b)
  | some (b, some s) => .dma (ss b s)
abbrev kcell (ck : Dev nD × Cl) : GSem nD τ sig := ((ck.1 : Thread nD τ), csem ck.2)

abbrev barC : Cl := none
abbrev recvC (b : Bf) : Cl := some (b, none)
abbrev sendC (b : Bf) (s : Fin 3) : Cl := some (b, some s)

/-- All cells of a device, listed. -/
def allCl : List Cl :=
  none :: [(false, false), (false, true), (true, false), (true, true)].flatMap fun b =>
    [some (b, none), some (b, some 0), some (b, some 1), some (b, some 2)]

theorem mem_allCl (k : Cl) : k ∈ allCl := by revert k; decide

/-- The cell a semaphore is. -/
def clOf (sm : SemLoc sig) : Option Cl := allCl.find? fun k => csem k = sm

theorem clOf_csem (k : Cl) : clOf (csem k) = some k := by revert k; decide

theorem csem_injective : Function.Injective csem := fun k k' h => by
  have := (clOf_csem k).symm.trans ((congrArg clOf h).trans (clOf_csem k'))
  exact Option.some.inj this

/-- The duties of a cell, named by the device that gains by the delivery they belong to. -/
def dut (c : Dev nD) : Cl → Finset (Dev nD)
  | none => ((outs c).map Prod.snd).toFinset
  | some (b, none) => if c = owner b.1 then ∅ else {c}
  | some (b, some s) => Finset.univ.filter fun d => d ≠ owner b.1 ∧ src b.1 d = c ∧ slot b.1 d = s

theorem outs_nodup (c : Dev nD) : (outs c).Nodup := by revert c; decide
theorem outs_snd_nodup (c : Dev nD) : ((outs c).map Prod.snd).Nodup := by revert c; decide
theorem mem_outs (c : Dev nD) : ∀ e ∈ outs c, e.2 ≠ owner e.1 ∧ src e.1 e.2 = c ∧ decide (src false e.2 ≠ c) = e.1 := by revert c; decide
theorem mem_ins (c : Dev nD) : ∀ e ∈ ins c, e.2 = c ∧ e.2 ≠ owner e.1 ∧ e ∈ outs (src e.1 e.2) ∧ decide (src false e.2 ≠ src e.1 e.2) = e.1 := by
  revert c; decide
theorem dut_send (e : Ed) (h : e.2 ≠ owner e.1) (v : Bool) : dut (src e.1 e.2) (sendC (e.1, v) (slot e.1 e.2)) = {e.2} := by
  revert v h e; decide

end Cert.KernelIdealProof

end
-- ==== Proof.KI.Sched.lean ====
/-
The schedule of the exchange: contents, payloads, duties, what a device owes, and the levels of the cells.
-/
module

public import proofs.«01_k».proof.Proof.KI.Proto
public import Idealize.ShloMosaic.Lib.Pipeline.Launch
public import Idealize.ShloMosaic.Lib.Pipeline.BigSepL
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device `c`'s staged key block and value block. -/
def kst (c : Dev nD) : (cc0_stg2_0 : Ref sig .tc).ty.Contents (Elt F) :=
  (win0_2.blk (0 : Fin 1)).view.read (Elt F) (m ((c : Thread nD τ).loc main_arg2))
def vst (c : Dev nD) : (cc0_stg3_0 : Ref sig .tc).ty.Contents (Elt F) :=
  (win0_3.blk (0 : Fin 1)).view.read (Elt F) (m ((c : Thread nD τ).loc main_arg3))

/-- The first half of a staged block's rows. -/
abbrev rHalf : Rect S2x256x4x64 := Rect.unit (s := S2x256x4x64) ![0, 0, 0, 0] S2x128x4x64.size inb_S2x256x4x64_S2x128x4x64_0_0_0_0

/-- What every device's landing buffers hold at the end: device 0's blocks, and the first halves of device 1's. -/
def cont : (b : Bf) → (ref b).ty.Contents (Elt F)
  | (false, false) => k0_pay2 (kst m 0)
  | (false, true) => k0_pay3 (vst m 0)
  | (true, false) => k0_pay4 ((Memref.whole cc0_stg2_0 : Memref sig .tc .vmem S2x256x4x64 .bf16).view.readAt (Elt F) rHalf.toLoadRect (kst m 1))
  | (true, true) => k0_pay5 ((Memref.whole cc0_stg3_0 : Memref sig .tc .vmem S2x256x4x64 .bf16).view.readAt (Elt F) rHalf.toLoadRect (vst m 1))

/-- Landing buffer `b` of device `c`, whole, at share `q`. -/
def bpts (c : Dev nD) (b : Bf) (q : PosShare TreeShare) (f : (ref b).ty.Contents (Elt F)) : sProp 𝕄 :=
  (((c : Thread nD τ).loc (ref b)) ↦{q} (f : Buf (Elt F) ((c : Thread nD τ).loc (ref b))))
/-- The same at some contents, outright. -/
def bany (c : Dev nD) (b : Bf) : sProp 𝕄 := iprop(∃ f, bpts (F := F) c b fullShare f)

omit [FloatOps F] in
instance bpts_storable (c : Dev nD) (b q f) : BI.Storable (upEmb : UEmb _ 𝕄) (bpts (F := F) c b q f) := by unfold bpts; infer_instance
omit [FloatOps F] in
instance bany_storable (c : Dev nD) (b) : BI.Storable (upEmb : UEmb _ 𝕄) (bany (F := F) c b) := by unfold bany; infer_instance

/-- The three shares a buffer's contents are sent at. -/
def qs : Fin 3 → PosShare TreeShare := ![fullShare.left, fullShare.right.left, fullShare.right.right]

/-- A buffer's credit. -/
def N (b : Bf) : ℕ := (Memref.whole (ref b)).view.dmaCredit
theorem N_pos (b : Bf) : 0 < N b := by
  unfold N
  rcases b with ⟨_ | _, _ | _⟩ <;> exact View.dmaCredit_pos _ (by decide)

/-! ## The schedule -/

/-- What a delivery to `d` hands cell `k` of device `c`: the barrier cell `d`'s landing buffers for the chunk `c` sends it; a
    receive cell the landed buffer; a send cell the share of the source. -/
def pay (c : Dev nD) (k : Cl) (d : Dev nD) : sProp 𝕄 :=
  match k with
  | none => iprop(bany (F := F) d (decide (src false d ≠ c), false) ∗ bany (F := F) d (decide (src false d ≠ c), true))
  | some (b, none) => bpts c b fullShare (cont m b)
  | some (b, some s) => bpts c b (qs s) (cont m b)

instance pay_storable (c : Dev nD) (k d) : BI.Storable (upEmb : UEmb _ 𝕄) (pay (F := F) m c k d) := by
  unfold pay; rcases k with _ | ⟨b, _ | s⟩ <;> dsimp only <;> infer_instance

/-- The units a delivery adds to cell `k`. -/
def amt : Cl → ℕ
  | none => 1
  | some (b, _) => N b
theorem amt_pos (k : Cl) : 0 < amt k := by rcases k with _ | ⟨b, _⟩; exacts [Nat.one_pos, N_pos b]

/-- One round, round 0, of every cell. -/
def Rd : Rounds.Schedule (GSem nD τ sig) (Dev nD) 𝕄 where
  duties g r := if r = 0 ∧ g.1.2 = .tc then (clOf g.2).elim ∅ (dut g.1.1) else ∅
  unitless _ := False
  amount g _ _ := (clOf g.2).elim 1 amt
  payload g _ d := (clOf g.2).elim iprop(emp) fun k => pay m g.1.1 k d
  amount_pos g _ _ _ := by
    rcases clOf g.2 with _ | k
    exacts [Nat.one_pos, amt_pos k]

instance Rd_payload_storable (g : GSem nD τ sig) (r : ℕ) (d : Dev nD) :
    BI.Storable (upEmb : UEmb _ 𝕄) ((Rd (F := F) m).payload g r d) := by
  show BI.Storable upEmb ((clOf g.2).elim iprop(emp) fun k => pay m g.1.1 k d)
  rcases clOf g.2 with _ | k <;> dsimp only [Option.elim] <;> infer_instance

section Sched
variable (c : Dev nD) (k : Cl)

theorem duties_cell : (Rd (F := F) m).duties (kcell (c, k)) 0 = dut c k := by
  dsimp only [Rd]; rw [if_pos ⟨rfl, rfl⟩, clOf_csem]; rfl
theorem duties_later (g : GSem nD τ sig) : ∀ r, 1 ≤ r → (Rd (F := F) m).duties g r = ∅ :=
  fun r hr => by dsimp only [Rd]; rw [if_neg fun h => by omega]
theorem amount_cell (d : Dev nD) : (Rd (F := F) m).amount (kcell (c, k)) 0 d = amt k := by
  dsimp only [Rd]; rw [clOf_csem]; rfl
theorem payload_cell (d : Dev nD) : (Rd (F := F) m).payload (kcell (c, k)) 0 d = pay m c k d := by
  dsimp only [Rd]; rw [clOf_csem]; rfl
theorem expect_cell : (Rd (F := F) m).expect (kcell (c, k)) 0 = (dut c k).card * amt k := by
  unfold Schedule.expect Schedule.amountOf
  rw [duties_cell, Finset.sum_congr rfl fun d _ => amount_cell m c k d, Finset.sum_const, smul_eq_mul]
/-- A cell no delivery concerns has no duty at all. -/
theorem duties_unused (h : dut c k = ∅) : ∀ r, 0 ≤ r → (Rd (F := F) m).duties (kcell (c, k)) r = ∅ := fun r _ => by
  rcases Nat.eq_zero_or_pos r with rfl | hr
  exacts [(duties_cell m c k).trans h, duties_later m _ r hr]

theorem rest_cell : bigSep ((Rd (F := F) m).duties (kcell (c, k)) 0 \ ∅) (fun d => (Rd (F := F) m).payload (kcell (c, k)) 0 d)
    = bigSep (dut c k) (pay (F := F) m c k) := by
  rw [Finset.sdiff_empty, duties_cell]; exact bigSep_congr fun d _ => payload_cell m c k d
end Sched

/-! ## What a device owes; the levels -/

/-- The credit a list of deliveries owes the receivers' cells, the first delivery's key buffer outermost. -/
def oweOut : List Ed → CellTallies nD τ sig Unit
  | [] => 0
  | e :: l => oweOut l + tallyAt (kcell (e.2, recvC (e.1, true))) () (N (e.1, true)) + tallyAt (kcell (e.2, recvC (e.1, false))) () (N (e.1, false))
/-- The units a list of deliveries owes the senders' barrier cells, over what else is owed. -/
def oweIn : List Ed → CellTallies nD τ sig Unit → CellTallies nD τ sig Unit
  | [], O => O
  | e :: l, O => oweIn l O + tallyAt (kcell (src e.1 e.2, barC)) () 1
/-- What a device owes at launch. -/
def O₀ (c : Dev nD) : CellTallies nD τ sig Unit := oweIn (ins c) (oweOut (outs c))

def L (g : GSem nD τ sig) : Finset Unit := if g.1.2 = .tc then {()} else ∅
def lvC (c : Dev nD) : Cl → ℕ
  | none => 1
  | some (b, none) => 1 + depth b.1 c
  | some (_, some _) => 0
/-- Barrier cells at 1, a receive cell above by the number of deliveries its chunk is away from its owner, everything else at 0. -/
def lv (g : GSem nD τ sig) (_ : Unit) : ℕ := (clOf g.2).elim 0 (lvC g.1.1)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cl) (u : Unit) : lv (kcell (c, k)) u = lvC c k := by unfold lv; rw [clOf_csem]; rfl

theorem tally_pos {g g' : GSem nD τ sig} {u : Unit} {n : ℕ} {O : CellTallies nD τ sig Unit} (h : 0 < (O + tallyAt g' () n) g u) :
    0 < O g u ∨ g = g' := by
  by_cases hg : g = g'
  · exact .inr hg
  · rw [Pi.add_apply, Finsupp.add_apply, tallyAt_apply, if_neg fun h' => hg h'.1, Nat.add_zero] at h; exact .inl h

theorem oweOut_pos {g : GSem nD τ sig} {u : Unit} {l : List Ed} (h : 0 < oweOut l g u) :
    ∃ e ∈ l, ∃ v : Bool, g = kcell (e.2, recvC (e.1, v)) := by
  induction l with
  | nil => exact absurd h (Nat.lt_irrefl 0)
  | cons e l ih =>
    rcases tally_pos h with h | h
    · rcases tally_pos h with h | h
      · obtain ⟨e', he, v, hv⟩ := ih h; exact ⟨e', List.mem_cons_of_mem _ he, v, hv⟩
      · exact ⟨e, List.mem_cons_self, true, h⟩
    · exact ⟨e, List.mem_cons_self, false, h⟩

theorem oweIn_pos {g : GSem nD τ sig} {u : Unit} {l : List Ed} {O : CellTallies nD τ sig Unit} (h : 0 < oweIn l O g u) :
    0 < O g u ∨ ∃ e ∈ l, g = kcell (src e.1 e.2, barC) := by
  induction l with
  | nil => exact .inl h
  | cons e l ih =>
    rcases tally_pos h with h | h
    · rcases ih h with h | ⟨e', he, hv⟩
      exacts [.inl h, .inr ⟨e', List.mem_cons_of_mem _ he, hv⟩]
    · exact .inr ⟨e, List.mem_cons_self, h⟩

/-- A device may wait at a cell below every receive cell it owes. -/
theorem mayWait_out (c : Dev nD) (k : Cl) (l : List Ed) (h : ∀ e ∈ l, lvC c k < 1 + depth e.1 e.2) :
    (levAts L lv : sProp 𝕄) ⊢ MayWait (c : Thread nD τ) (csem k) () (oweOut l) :=
  MayOwe.of_cut (L := L) (lev := lv) (lvC c k) (fun p hp => by rw [Finset.mem_singleton.mp hp, L_tc]; exact Finset.mem_singleton_self _)
    (fun g u hg => by obtain ⟨e, he, v, rfl⟩ := oweOut_pos hg; rw [L_tc]; exact Finset.mem_singleton_self _)
    (fun p hp => by rw [Finset.mem_singleton.mp hp]; exact (lv_cell c k ()).le)
    (fun g u hg => by obtain ⟨e, he, v, rfl⟩ := oweOut_pos hg; exact (h e he).trans_eq (lv_cell e.2 (recvC (e.1, v)) u).symm)

/-- At the staging cells a device may wait with all it owes at launch, or nothing. -/
theorem mayWait_stage (c : Dev nD) (q : DmaSem sig) (hq : clOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; dsimp only [lv]; rw [hq]; exact le_rfl) (fun g u hg => ?_)
    · rcases oweIn_pos hg with hg | ⟨e, _, rfl⟩
      · obtain ⟨e, _, v, rfl⟩ := oweOut_pos hg; exact Finset.mem_singleton_self _
      · exact Finset.mem_singleton_self _
    · rcases oweIn_pos hg with hg | ⟨e, _, rfl⟩
      · obtain ⟨e, _, v, rfl⟩ := oweOut_pos hg; rw [lv_cell]; exact Nat.lt_of_lt_of_le Nat.zero_lt_one (Nat.le_add_right _ _)
      · rw [lv_cell]; exact Nat.one_pos
  · rw [MayWait_zero]; iintro -; iempintro

/-! ## The tokens -/

/-- The duties a delivery's sender pays: its receiver's two receive cells, its own two send cells. -/
def etok (e : Ed) : List Duty :=
  [(e.2, recvC (e.1, false), e.2), (e.2, recvC (e.1, true), e.2),
   (src e.1 e.2, sendC (e.1, false) (slot e.1 e.2), e.2), (src e.1 e.2, sendC (e.1, true) (slot e.1 e.2), e.2)]
/-- All the duties a device pays. -/
def paid (c : Dev nD) : List Duty :=
  (ins c).map (fun e => (src e.1 e.2, barC, c)) ++ (outs c).flatMap etok

/-- A duty's number. -/
def code (x : Duty) : ℕ :=
  64 * (x.1.val + 8 * (match x.2.1 with
    | none => 0
    | some (b, none) => 1 + b.1.toNat + 2 * b.2.toNat
    | some (b, some s) => 5 + b.1.toNat + 2 * b.2.toNat + 4 * s.val)) + x.2.2.val
theorem paid_nodup (c : Dev nD) : (paid c).Nodup := by
  refine List.Nodup.of_map code ?_
  revert c; decide
/-- Who pays a duty. -/
def payer (x : Duty) : Dev nD :=
  match x.2.1 with
  | none => x.2.2
  | some (b, none) => src b.1 x.2.2
  | some (_, some _) => x.1
theorem payer_paid (c : Dev nD) (x) (hx : x ∈ paid c) : payer x = c := by
  rcases List.mem_append.mp hx with h | h
  · obtain ⟨e, _, rfl⟩ := List.mem_map.mp h; rfl
  · obtain ⟨e, he, h⟩ := List.mem_flatMap.mp h
    have hs := (mem_outs c e he).2.1
    simp only [etok, List.mem_cons, List.not_mem_nil, or_false] at h
    rcases h with rfl | rfl | rfl | rfl <;> exact hs
theorem paid_disj (c c' : Dev nD) (h : c ≠ c') : Disjoint (paid c).toFinset (paid c').toFinset := by
  rw [List.disjoint_toFinset_iff_disjoint]
  exact fun x hx hx' => h ((payer_paid c x hx).symm.trans (payer_paid c' x hx'))

end Cert.KernelIdealProof

end
-- ==== Proof.KI.Steps.lean ====
/-
The steps of the exchange, one rule per effect of the kernel's bodies: a signal, the barrier wait, a send, a wait for a
landed buffer or for a source's share; and the closing of a device's cells.
-/
module

public import proofs.«01_k».proof.Proof.KI.Sched
public import Idealize.ShloMosaic.Lib.Pipeline.Launch
public import Idealize.ShloMosaic.Lib.Pipeline.BigSepL
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Resources -/

/-- Every cell's invariant, and that every cell has reached round 0. -/
def records (K : Dev nD × Cl → ℕ) : sProp 𝕄 :=
  bigSep Finset.univ fun ck : Dev nD × Cl => iprop(cellInv ER (Rd m) (K ck) (kcell ck) ∗ reached ER (kcell ck) 0)
/-- What every device knows: the cells and the levels. -/
def env (K : Dev nD × Cl → ℕ) : sProp 𝕄 := iprop(records m K ∗ levAts L lv)

instance records_persistent (K : Dev nD × Cl → ℕ) : BI.Persistent (records (F := F) m K) := by unfold records; infer_instance
instance env_persistent (K : Dev nD × Cl → ℕ) : BI.Persistent (env (F := F) m K) := by unfold env; infer_instance

theorem env_inv (K : Dev nD × Cl → ℕ) (ck : Dev nD × Cl) : env (F := F) m K ⊢ cellInv ER (Rd m) (K ck) (kcell ck) := by
  have h : records (F := F) m K ⊢ iprop(cellInv ER (Rd m) (K ck) (kcell ck) ∗ reached ER (kcell ck) 0) :=
    bigSep_elim (Finset.mem_univ ck) (Φ := fun ck : Dev nD × Cl => iprop(cellInv ER (Rd m) (K ck) (kcell ck) ∗ reached ER (kcell ck) 0))
  unfold env
  iintro ⟨#H, -⟩
  ihave H' := h $$ H
  icases H' with ⟨H1, -⟩
  iexact H1
theorem env_reached (K : Dev nD × Cl → ℕ) (ck : Dev nD × Cl) : env (F := F) m K ⊢ reached ER (kcell ck) 0 := by
  have h : records (F := F) m K ⊢ iprop(cellInv ER (Rd m) (K ck) (kcell ck) ∗ reached ER (kcell ck) 0) :=
    bigSep_elim (Finset.mem_univ ck) (Φ := fun ck : Dev nD × Cl => iprop(cellInv ER (Rd m) (K ck) (kcell ck) ∗ reached ER (kcell ck) 0))
  unfold env
  iintro ⟨#H, -⟩
  ihave H' := h $$ H
  icases H' with ⟨-, H1⟩
  iexact H1
theorem env_lev (K : Dev nD × Cl → ℕ) : env (F := F) m K ⊢ levAts L lv := by
  unfold env; iintro ⟨-, #H⟩; iexact H

/-- What a device owes, whatever it waits for. -/
def Ow (c : Dev nD) (O : CellTallies nD τ sig Unit) : sProp 𝕄 := iprop(∃ W, owes (c : Thread nD τ) O W)
/-- The token of a duty. -/
def tok (x : Duty) : sProp 𝕄 := dutyTok ER (kcell (x.1, x.2.1)) 0 x.2.2
/-- The credit for a cell's round. -/
def crd (c : Dev nD) (k : Cl) (n : ℕ) : sProp 𝕄 := cred (tallyAt (kcell (c, k)) () n)
/-- A cell past its last round. -/
def fin (c : Dev nD) (k : Cl) : sProp 𝕄 :=
  iprop(∃ R : ℕ, ⌜∀ r, R ≤ r → (Rd (F := F) m).duties (kcell (c, k)) r = ∅⌝ ∗ atPos ER (kcell (c, k)) R ∅ 0)
/-- A device's positions: the cells listed past their round, the others before it. -/
def posns (c : Dev nD) (l : List Cl) : sProp 𝕄 :=
  bigSep Finset.univ fun k : Cl => if k ∈ l then fin m c k else atPos ER (kcell (c, k)) 0 ∅ 0

theorem posns_take (c : Dev nD) (l : List Cl) (k : Cl) (hk : k ∉ l) :
    posns (F := F) m c l ⊢ iprop(atPos ER (kcell (c, k)) 0 ∅ 0 ∗ (atPos ER (kcell (c, k)) 1 ∅ 0 -∗ posns m c (k :: l))) := by
  have h2 : iprop(fin m c k ∗ bigSep (Finset.univ.erase k) fun k : Cl => if k ∈ l then fin (F := F) m c k else atPos ER (kcell (c, k)) 0 ∅ 0)
      ⊢ posns m c (k :: l) := by
    unfold posns
    rw [bigSep_univ_at (fun k' : Cl => if k' ∈ k :: l then fin m c k' else atPos ER (kcell (c, k')) 0 ∅ 0) k, if_pos List.mem_cons_self]
    refine sep_mono_right (Entails.of_eq (bigSep_congr fun k' hk' => ?_))
    have hne := Finset.ne_of_mem_erase hk'
    by_cases h : k' ∈ l
    · rw [if_pos h, if_pos (List.mem_cons_of_mem _ h)]
    · rw [if_neg h, if_neg (by simp [hne, h])]
  have h1 : posns (F := F) m c l ⊢ iprop(atPos ER (kcell (c, k)) 0 ∅ 0
      ∗ bigSep (Finset.univ.erase k) fun k : Cl => if k ∈ l then fin m c k else atPos ER (kcell (c, k)) 0 ∅ 0) := by
    unfold posns
    rw [bigSep_univ_at (fun k' : Cl => if k' ∈ l then fin m c k' else atPos ER (kcell (c, k')) 0 ∅ 0) k, if_neg hk]
  refine h1.trans ?_
  iintro ⟨H1, H2⟩
  isplitl [H1]; · iexact H1
  iintro H
  iapply h2
  isplitl [H]
  · unfold fin
    iexists 1
    isplitr; · ipureintro; exact duties_later m _
    iexact H
  iexact H2

/-- A persistent assertion serves every summand of a separating conjunction. -/
theorem bigSep_serve {I : Type} [DecidableEq I] {R : sProp 𝕄} [BI.Persistent R] {Φ Ψ : I → sProp 𝕄} (S : Finset I)
    (h : ∀ i, iprop(R ∗ Φ i) ⊢ Ψ i) : iprop(R ∗ bigSep S Φ) ⊢ bigSep S Ψ := by
  induction S using Finset.induction_on with
  | empty => rw [bigSep_empty, bigSep_empty]; iintro ⟨-, H⟩; iexact H
  | insert i S hi ih =>
    have e1 : bigSep (insert i S) Φ = iprop(Φ i ∗ bigSep S Φ) := bigSep_insert hi
    have e2 : bigSep (insert i S) Ψ = iprop(Ψ i ∗ bigSep S Ψ) := bigSep_insert hi
    rw [e1, e2]
    iintro ⟨#HR, Hi, HS⟩
    isplitl [Hi]
    · iapply (h i)
      isplitr; · iexact HR
      iexact Hi
    · iapply ih
      isplitr; · iexact HR
      iexact HS

/-- Every cell closed: its counter at zero. -/
theorem posns_close (K : Dev nD × Cl → ℕ) (c : Dev nD) (l : List Cl) (h : ∀ k, k ∉ l → dut c k = ∅) :
    iprop(env (F := F) m K ∗ posns m c l) ⊢ iprop(|={Set.univ}=> bigSep Finset.univ fun k : Cl => semVal (kcell (c, k)) 0) := by
  unfold posns
  have hcl (k : Cl) : iprop(env (F := F) m K ∗ fin m c k) ⊢ iprop(|={Set.univ}=> semVal (kcell (c, k)) 0) := by
    unfold fin
    iintro ⟨#He, ⟨%R, %hR, Hat⟩⟩
    ihave #Hi := (env_inv m K (c, k)) $$ He
    iapply (Rounds.cell_close ER (Rd m) (Set.mem_univ (K (c, k))) (fun h => h) (R := R) hR)
    isplitr; · iexact Hi
    iexact Hat
  have hk (k : Cl) : iprop(env (F := F) m K ∗ (if k ∈ l then fin m c k else atPos ER (kcell (c, k)) 0 ∅ 0)) ⊢ iprop(env m K ∗ fin m c k) := by
    by_cases hk : k ∈ l
    · rw [if_pos hk]
    · rw [if_neg hk]
      iintro ⟨#He, H⟩
      isplitr; · iexact He
      unfold fin
      iexists 0
      isplitr; · ipureintro; exact duties_unused m c k (h k hk)
      iexact H
  refine (bigSep_serve (Ψ := fun k : Cl => iprop(|={Set.univ}=> semVal (kcell (c, k)) 0)) Finset.univ fun k => (hk k).trans (hcl k)).trans ?_
  exact bigSep_fupd Finset.univ fun k : Cl => semVal (kcell (c, k)) 0

/-! ## The steps -/

section Steps
variable (K : Dev nD × Cl → ℕ)

/-- A device announces itself to the sender of one of its deliveries, handing over its landing buffers. -/
theorem step_sig {α : Type} {Q : α → sProp 𝕄} {k : PUnit → Prog (TpuEff nD τ sig (Elt F) Λ₀ .tc) α}
    (c : Dev nD) (e : Ed) (l : List Ed) (O : CellTallies nD τ sig Unit) (he : e ∈ ins c)
    {dev : Dev nD} (hdev : dev = src e.1 e.2) {sm : Sem sig} (hsm : sm = barS) {n : ℕ} (hn : n = 1) :
    iprop(env (F := F) m K ∗ Ow c (oweIn (e :: l) O) ∗ tok (src e.1 e.2, barC, c) ∗ bany (F := F) c (e.1, false) ∗ bany (F := F) c (e.1, true))
      ⊢ iprop((Ow c (oweIn l O) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc dev) sm n) k) Q) := by
  subst hdev hsm hn
  obtain ⟨h1, h2, h3, h4⟩ := mem_ins c e he
  have hd : c ∈ (Rd (F := F) m).duties (kcell (src e.1 e.2, barC)) 0 := by
    rw [duties_cell]; exact List.mem_toFinset.mpr (List.mem_map.mpr ⟨e, h3, h1⟩)
  have hp : pay (F := F) m (src e.1 e.2) barC c = iprop(bany (F := F) c (e.1, false) ∗ bany (F := F) c (e.1, true)) := by
    show iprop(bany (F := F) c (decide (src false c ≠ src e.1 e.2), false) ∗ bany (F := F) c (decide (src false c ≠ src e.1 e.2), true)) = _
    rw [show decide (src false c ≠ src e.1 e.2) = e.1 from (congrArg (fun d => decide (src false d ≠ src e.1 e.2)) h1.symm).trans h4]
  iintro ⟨#He, Ho, Ht, Hk, Hv⟩ Hc
  unfold Ow tok
  icases Ho with ⟨%W, HO⟩
  iapply (Rounds.wp_signal 𝒱₀ ER (Rd m) (c : Thread nD τ) none (dst := (src e.1 e.2 : Thread nD τ)) (κ := K (src e.1 e.2, barC))
      (d := c) hd
      (amount_cell m (src e.1 e.2) barC c) () (oweIn l O) rfl (W := W)) $$ [HO Ht Hk Hv]
  · isplitr; · iapply (env_inv m K (src e.1 e.2, barC)); iexact He
    isplitl [HO]; · iexact HO
    isplitl [Ht]; · iexact Ht
    isplitl [Hk Hv]
    · iapply (Entails.of_eq ((payload_cell m (src e.1 e.2) barC c).trans hp).symm)
      isplitl [Hk] <;> iassumption
    · iapply (env_reached m K (src e.1 e.2, barC)); iexact He
  iintro HO
  iapply Hc
  iexists W; iexact HO

/-- The landing buffers of a list of deliveries. -/
def lands : List Ed → sProp 𝕄
  | [] => iprop(emp)
  | e :: l => iprop((bany (F := F) e.2 (e.1, false) ∗ bany (F := F) e.2 (e.1, true)) ∗ lands l)

theorem lands_of (c : Dev nD) (l : List Ed) (hnd : (l.map Prod.snd).Nodup) (h : ∀ e ∈ l, decide (src false e.2 ≠ c) = e.1) :
    bigSep (l.map Prod.snd).toFinset (pay (F := F) m c barC) = lands l := by
  induction l with
  | nil => exact bigSep_empty
  | cons e l ih =>
    rw [List.map_cons, List.nodup_cons] at hnd
    rw [List.map_cons, List.toFinset_cons, bigSep_insert (fun h => hnd.1 (List.mem_toFinset.mp h)),
      ih hnd.2 fun e' he' => h e' (List.mem_cons_of_mem _ he')]
    have h1 : pay (F := F) m c barC e.2 = iprop(bany (F := F) e.2 (e.1, false) ∗ bany (F := F) e.2 (e.1, true)) := by
      show iprop(bany (F := F) e.2 (decide (src false e.2 ≠ c), false) ∗ bany (F := F) e.2 (decide (src false e.2 ≠ c), true)) = _
      rw [h e List.mem_cons_self]
    rw [h1]
    rfl

/-- A device waits for all its receivers: their landing buffers. -/
theorem step_bar {α : Type} {Q : α → sProp 𝕄} {k : PUnit → Prog (TpuEff nD τ sig (Elt F) Λ₀ .tc) α}
    (c : Dev nD) (l : List Cl) (hl : barC ∉ l) {sm : Sem sig} (hsm : sm = barS) {n : ℕ} (hn : n = (outs c).length) :
    iprop(env (F := F) m K ∗ crd c barC (outs c).length ∗ Ow c (oweOut (outs c)) ∗ posns m c l)
      ⊢ iprop(((Ow c (oweOut (outs c)) ∗ posns m c (barC :: l) ∗ lands (outs c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm n) k) Q) := by
  subst hsm hn
  have hx : 0 + (outs c).length = (Rd (F := F) m).expect (kcell (c, barC)) 0 := by
    rw [expect_cell, Nat.zero_add]
    show _ = Finset.card ((outs c).map Prod.snd).toFinset * 1
    rw [List.toFinset_card_of_nodup (outs_snd_nodup c), List.length_map, Nat.mul_one]
  have hlv : ∀ e ∈ outs c, lvC c barC < 1 + depth e.1 e.2 := (by decide : ∀ c, ∀ e ∈ outs c, lvC c barC < 1 + depth e.1 e.2) c
  iintro ⟨#He, Hcr, Ho, Hp⟩ Hc
  ihave Hp' := (posns_take m c l barC hl) $$ Hp
  icases Hp' with ⟨Hat, Hp⟩
  unfold Ow crd
  icases Ho with ⟨%W, HO⟩
  iapply (Rounds.wp_wait_rest_token 𝒱₀ ER (Rd m) (c : Thread nD τ) none (κ := K (c, barC))
      (wpE_semWait_eq 𝒱₀ (c : Thread nD τ) none Set.univ) (Set.mem_univ _) () (O := oweOut (outs c)) (W := W) (R := 0) (m := 0) (T := ∅)
      hx) $$ [Hcr HO Hat]
  · isplitr; · iapply (env_inv m K (c, barC)); iexact He
    isplitl [Hcr]; · iexact Hcr
    isplitl [HO]; · iexact HO
    isplitr
    · iapply (mayWait_out c barC (outs c) hlv); iapply (env_lev m K); iexact He
    iexact Hat
  iintro ⟨HO, Hat, -, Hpay⟩
  iapply Hc
  isplitl [HO]; · iexists _; iexact HO
  isplitl [Hat Hp]; · iapply Hp; iexact Hat
  iapply (Entails.of_eq (lands_of m c (outs c) (outs_snd_nodup c) fun e he => (mem_outs c e he).2.2))
  iapply (Entails.of_eq (rest_cell m c barC))
  iexact Hpay

/-- A wait for a landed buffer, or for the share of a source that was sent. -/
theorem step_wait {α : Type} {Q : α → sProp 𝕄} {k : PUnit → Prog (TpuEff nD τ sig (Elt F) Λ₀ .tc) α}
    (c : Dev nD) (l : List Cl) (b : Bf) (o : Option (Fin 3)) (d : Dev nD) (O : List Ed) (hl : some (b, o) ∉ l)
    (hd : dut c (some (b, o)) = {d}) (hO : ∀ e ∈ O, lvC c (some (b, o)) < 1 + depth e.1 e.2)
    {q : DmaSem sig} (hq : csem (some (b, o)) = .dma q)
    {h1 h2 : (Memref.whole (ref b) : Memref sig .tc _ _ _).view.WordExact} :
    iprop(env (F := F) m K ∗ crd c (some (b, o)) (N b) ∗ Ow c (oweOut O) ∗ posns m c l)
      ⊢ iprop(((Ow c (oweOut O) ∗ posns m c (some (b, o) :: l) ∗ pay m c (some (b, o)) d)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (Memref.whole (ref b) : Memref sig .tc _ _ _) (Memref.whole (ref b) : Memref sig .tc _ _ _) h1 h2) k) Q) := by
  iintro ⟨#He, Hcr, Ho, Hp⟩ Hc
  ihave Hp' := (posns_take m c l (some (b, o)) hl) $$ Hp
  icases Hp' with ⟨Hat, Hp⟩
  unfold Ow crd
  icases Ho with ⟨%W, HO⟩
  have hg : ((c : Thread nD τ), SemLoc.dma q) = kcell (c, some (b, o)) := by rw [← hq]
  have hx : 0 + (Memref.whole (ref b) : Memref sig .tc _ _ _).view.dmaCredit = (Rd (F := F) m).expect ((c : Thread nD τ), SemLoc.dma q) 0 := by
    rw [hg, expect_cell, hd, Finset.card_singleton, Nat.one_mul, Nat.zero_add]; rfl
  iapply (Rounds.wp_wait_rest_token 𝒱₀ ER (Rd m) (c : Thread nD τ) none (κ := K (c, some (b, o)))
      (wpE_waitDma2_eq 𝒱₀ (c : Thread nD τ) none Set.univ) (Set.mem_univ _) () (O := oweOut O) (W := W) (R := 0) (m := 0) (T := ∅)
      hx) $$ [Hcr HO Hat]
  · rw [hg]
    isplitr; · iapply (env_inv m K (c, some (b, o))); iexact He
    isplitl [Hcr]; · iexact Hcr
    isplitl [HO]; · iexact HO
    isplitr
    · rw [← hq]; iapply (mayWait_out c (some (b, o)) O hO); iapply (env_lev m K); iexact He
    iexact Hat
  rw [hg]
  iintro ⟨HO, Hat, -, Hpay⟩
  iapply Hc
  isplitl [HO]; · iexists _; iexact HO
  isplitl [Hat Hp]; · iapply Hp; iexact Hat
  ihave Hp2 := (Entails.of_eq (rest_cell m c (some (b, o)))) $$ Hpay
  iapply (Entails.of_eq (show bigSep (dut c (some (b, o))) (pay (F := F) m c (some (b, o))) = pay m c (some (b, o)) d from by
    rw [hd, bigSep_singleton]))
  iexact Hp2

omit [FloatOps F] in
theorem bpts_view (c : Dev nD) (b : Bf) (q : PosShare TreeShare) (f : (ref b).ty.Contents (Elt F)) :
    ((Memref.whole (ref b) : Memref sig .tc _ _ _).view.loc (c : Thread nD τ) ↦[(Memref.whole (ref b) : Memref sig .tc _ _ _).view.set]{q} f : sProp 𝕄)
      = bpts c b q f := by
  have h : (Memref.whole (ref b) : Memref sig .tc _ _ _).view.set = Finset.univ := View.set_whole _
  unfold bpts
  rw [h]
omit [FloatOps F] in
theorem landed_eq (b : Bf) (fd fs : (ref b).ty.Contents (Elt F)) :
    (Memref.whole (ref b) : Memref sig .tc _ _ _).view.write (Elt F) fd ((Memref.whole (ref b) : Memref sig .tc _ _ _).view.read (Elt F) fs) Finset.univ = fs := by
  show (View.whole (ref b)).write (Elt F) fd ((View.whole (ref b)).read (Elt F) fs) Finset.univ = fs
  rw [View.read_whole]
  exact View.write_whole_univ _ _ _

/-- One buffer of a delivery is sent: the source's share goes with it, credit for its return comes. -/
theorem step_send {α : Type} {Q : α → sProp 𝕄} {k : PUnit → Prog (TpuEff nD τ sig (Elt F) Λ₀ .tc) α}
    (c : Dev nD) (e : Ed) (v : Bool) (he : e ∈ outs c) (O : CellTallies nD τ sig Unit)
    {dev : Dev nD} (hdev : dev = e.2) {q q' : DmaSem sig} (hq : q = ss (e.1, v) (slot e.1 e.2)) (hq' : q' = rs (e.1, v))
    {h1 h2 : (Memref.whole (ref (e.1, v)) : Memref sig .tc _ _ _).view.WordExact}
    {hsc : (Memref.whole (ref (e.1, v)) : Memref sig (Dev.tc dev : Thread nD τ).2.kind _ _ _).view.ref.isScScratch = false}
    {h3 : DmaTarget.Typed _ (.dma q') (.remote (Dev.tc dev : Thread nD τ) (Memref.whole (ref (e.1, v)) : Memref sig .tc _ _ _) (.dma q) hsc)} :
    iprop(env (F := F) m K ∗ bpts c (e.1, v) (qs (slot e.1 e.2)) (cont m (e.1, v)) ∗ bany (F := F) e.2 (e.1, v)
        ∗ Ow c (O + tallyAt (kcell (e.2, recvC (e.1, v))) () (N (e.1, v)))
        ∗ tok (src e.1 e.2, sendC (e.1, v) (slot e.1 e.2), e.2) ∗ tok (e.2, recvC (e.1, v), e.2))
      ⊢ iprop(((crd c (sendC (e.1, v) (slot e.1 e.2)) (N (e.1, v)) ∗ Ow c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole (ref (e.1, v)) : Memref sig .tc _ _ _)
                (.remote (Dev.tc dev : Thread nD τ) (Memref.whole (ref (e.1, v)) : Memref sig .tc _ _ _) (.dma q) hsc) (.dma q') h1 h2 h3) k) Q) := by
  subst hdev hq hq'
  obtain ⟨hne, hsrc, -⟩ := mem_outs c e he
  subst hsrc
  have hd₁ : e.2 ∈ (Rd (F := F) m).duties (kcell (src e.1 e.2, sendC (e.1, v) (slot e.1 e.2))) 0 := by
    rw [duties_cell, dut_send e hne v]; exact Finset.mem_singleton_self _
  have hd₂ : e.2 ∈ (Rd (F := F) m).duties (kcell (e.2, recvC (e.1, v))) 0 := by
    rw [duties_cell]
    show e.2 ∈ (if e.2 = owner e.1 then (∅ : Finset (Dev nD)) else {e.2})
    rw [if_neg hne]; exact Finset.mem_singleton_self _
  have hp₁ := Entails.of_eq ((bpts_view (src e.1 e.2) (e.1, v) (qs (slot e.1 e.2)) (cont m (e.1, v))).trans
    (payload_cell m (src e.1 e.2) (sendC (e.1, v) (slot e.1 e.2)) e.2).symm)
  have hp₂ (fd : (ref (e.1, v)).ty.Contents (Elt F)) :
      ((Memref.whole (ref (e.1, v)) : Memref sig .tc _ _ _).view.loc (e.2 : Thread nD τ) ↦[(Memref.whole (ref (e.1, v)) : Memref sig .tc _ _ _).view.set]{fullShare}
        ((Memref.whole (ref (e.1, v)) : Memref sig .tc _ _ _).view.write (Elt F) fd ((Memref.whole (ref (e.1, v)) : Memref sig .tc _ _ _).view.read (Elt F) (cont m (e.1, v))) Finset.univ) : sProp 𝕄)
      ⊢ (Rd (F := F) m).payload (kcell (e.2, recvC (e.1, v))) 0 e.2 := by
    rw [landed_eq]
    exact Entails.of_eq ((bpts_view e.2 (e.1, v) fullShare (cont m (e.1, v))).trans (payload_cell m e.2 (recvC (e.1, v)) e.2).symm)
  have hN : (Memref.whole (ref (e.1, v)) : Memref sig .tc _ _ _).view.amount (SemLoc.dma (rs (e.1, v)) : SemLoc sig) = N (e.1, v) := by
    unfold N; rfl
  have hr : τ.routes (src e.1 e.2 : Thread nD τ) (e.2 : Thread nD τ) = true := by routes
  have key (fd : (ref (e.1, v)).ty.Contents (Elt F)) (W : Waits sig Unit) := Rounds.wp_send_pointsTo (k := k) (Q := Q) (defs := defs₀ (F := F)) (Γ := []) (hsrc := h1) (hdst := h2) (hsem := h3) 𝒱₀ ER (Rd m) (src e.1 e.2 : Thread nD τ) none
    (κ₁ := K (src e.1 e.2, sendC (e.1, v) (slot e.1 e.2))) (κ₂ := K (e.2, recvC (e.1, v)))
    (r₁ := 0) (r₂ := 0) (d₁ := e.2) (d₂ := e.2) (q := qs (slot e.1 e.2)) (fs := cont m (e.1, v)) (fd := fd)
    hd₁ hd₂ () () (N (e.1, v)) hN (amount_cell m _ (sendC (e.1, v) (slot e.1 e.2)) e.2) (amount_cell m e.2 (recvC (e.1, v)) e.2) O rfl (W := W)
    hp₁ (hp₂ fd) (Es := Set.univ) hr
  iintro ⟨#He, Hs, Hd, Ho, Ht, Ht'⟩ Hc
  unfold Ow crd bany tok
  icases Ho with ⟨%W, HO⟩
  icases Hd with ⟨%fd, Hd⟩
  iapply (key fd W) $$ [Hs Hd HO Ht Ht']
  · isplitr; · iapply (env_inv m K (src e.1 e.2, sendC (e.1, v) (slot e.1 e.2))); iexact He
    isplitr; · iapply (env_inv m K (e.2, recvC (e.1, v))); iexact He
    isplitl [Hs]; · iapply (Entails.of_eq (bpts_view (src e.1 e.2) (e.1, v) (qs (slot e.1 e.2)) (cont m (e.1, v))).symm); iexact Hs
    isplitl [Hd]; · iapply (Entails.of_eq (bpts_view e.2 (e.1, v) fullShare fd).symm); iexact Hd
    isplitl [HO]; · iexact HO
    isplitl [Ht]; · iexact Ht
    isplitr; · iapply (env_reached m K (src e.1 e.2, sendC (e.1, v) (slot e.1 e.2))); iexact He
    isplitl [Ht']; · iexact Ht'
    iapply (env_reached m K (e.2, recvC (e.1, v))); iexact He
  iintro ⟨Hcr, HO⟩
  iapply Hc
  isplitl [Hcr]; · iexact Hcr
  iexists W; iexact HO

end Steps

end Cert.KernelIdealProof

end
-- ==== Proof.KI.Pairs.lean ====
/-
The exchange on each of the eight devices: the branch of the body that device takes, step by step.
-/
module

public import proofs.«01_k».proof.Proof.KI.Steps
public import Idealize.ShloMosaic.Lib.Pipeline.Launch
public import Idealize.ShloMosaic.Lib.Pipeline.BigSepL
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Steps in pairs: keys, then values -/

/-- A chunk on device `c`, both its buffers, at share `q`. -/
def chunk (c : Dev nD) (ch : Bool) (q : PosShare TreeShare) : sProp 𝕄 :=
  iprop(bpts c (ch, false) q (cont m (ch, false)) ∗ bpts c (ch, true) q (cont m (ch, true)))
/-- The same buffers at some contents. -/
def room (c : Dev nD) (ch : Bool) : sProp 𝕄 := iprop(bany (F := F) c (ch, false) ∗ bany (F := F) c (ch, true))
/-- The tokens of a delivery's duties. -/
def etk (e : Ed) : sProp 𝕄 :=
  iprop((tok (e.2, recvC (e.1, false), e.2) ∗ tok (e.2, recvC (e.1, true), e.2))
    ∗ tok (src e.1 e.2, sendC (e.1, false) (slot e.1 e.2), e.2) ∗ tok (src e.1 e.2, sendC (e.1, true) (slot e.1 e.2), e.2))
def etks : List Ed → sProp 𝕄
  | [] => iprop(emp)
  | e :: l => iprop(etk (F := F) e ∗ etks l)
/-- The tokens of a device's announcements. -/
def btks (c : Dev nD) : List Ed → sProp 𝕄
  | [] => iprop(emp)
  | e :: l => iprop(tok (F := F) (src e.1 e.2, barC, c) ∗ btks c l)
/-- The credit for a chunk's landing, and for the return of a delivery's shares. -/
def rcr (c : Dev nD) (ch : Bool) : sProp 𝕄 := iprop(crd (F := F) c (recvC (ch, false)) (N (ch, false)) ∗ crd (F := F) c (recvC (ch, true)) (N (ch, true)))
def scr (c : Dev nD) (e : Ed) : sProp 𝕄 :=
  iprop(crd (F := F) c (sendC (e.1, false) (slot e.1 e.2)) (N (e.1, false)) ∗ crd (F := F) c (sendC (e.1, true) (slot e.1 e.2)) (N (e.1, true)))
def rcrs (c : Dev nD) : List Ed → sProp 𝕄
  | [] => iprop(emp)
  | e :: l => iprop(rcr (F := F) c e.1 ∗ rcrs c l)

theorem chunk_split (c : Dev nD) (ch : Bool) :
    chunk (F := F) m c ch fullShare ⊢ iprop(chunk m c ch (qs 0) ∗ chunk m c ch (qs 1) ∗ chunk m c ch (qs 2)) := by
  have h (b : Bf) : bpts (F := F) c b fullShare (cont m b) ⊢ iprop(bpts c b (qs 0) (cont m b) ∗ bpts c b (qs 1) (cont m b) ∗ bpts c b (qs 2) (cont m b)) := by
    unfold bpts
    exact (pointsTo_share (PosShare.mem_left_op_right fullShare)).1.trans (sep_mono_right (pointsTo_share (PosShare.mem_left_op_right fullShare.right)).1)
  unfold chunk
  iintro ⟨Hk, Hv⟩
  ihave Hk' := (h (ch, false)) $$ Hk
  ihave Hv' := (h (ch, true)) $$ Hv
  icases Hk' with ⟨H1, H2, H3⟩
  icases Hv' with ⟨H4, H5, H6⟩
  isplitl [H1 H4]; · isplitl [H1] <;> iassumption
  isplitl [H2 H5]; · isplitl [H2] <;> iassumption
  isplitl [H3] <;> iassumption

theorem chunk_join (c : Dev nD) (ch : Bool) :
    iprop(chunk (F := F) m c ch (qs 0) ∗ chunk m c ch (qs 1) ∗ chunk m c ch (qs 2)) ⊢ chunk m c ch fullShare := by
  have h (b : Bf) : iprop(bpts (F := F) c b (qs 0) (cont m b) ∗ bpts c b (qs 1) (cont m b) ∗ bpts c b (qs 2) (cont m b)) ⊢ bpts c b fullShare (cont m b) := by
    unfold bpts
    exact (sep_mono_right (pointsTo_share (PosShare.mem_left_op_right fullShare.right)).2).trans (pointsTo_share (PosShare.mem_left_op_right fullShare)).2
  unfold chunk
  iintro ⟨⟨H1, H4⟩, ⟨H2, H5⟩, H3, H6⟩
  isplitl [H1 H2 H3]
  · iapply (h (ch, false))
    isplitl [H1]; · iexact H1
    isplitl [H2] <;> iassumption
  · iapply (h (ch, true))
    isplitl [H4]; · iexact H4
    isplitl [H5] <;> iassumption

/-- A landing pays its receiver the whole buffer; a send returns its share. -/
theorem pay_recv (c d : Dev nD) (b : Bf) : pay (F := F) m c (recvC b) d = bpts c b fullShare (cont m b) := rfl
theorem pay_send (c d : Dev nD) (b : Bf) (s : Fin 3) : pay (F := F) m c (sendC b s) d = bpts c b (qs s) (cont m b) := rfl

section Pairs
variable (K : Dev nD × Cl → ℕ)

/-- A delivery: the key buffer, then the value buffer. -/
theorem deliver {α : Type} {Q : α → sProp 𝕄} {k : PUnit → Prog (TpuEff nD τ sig (Elt F) Λ₀ .tc) α}
    (c : Dev nD) (e : Ed) (l : List Ed) (he : e ∈ outs c) (s : Fin 3) (hs : slot e.1 e.2 = s)
    {dev dev' : Dev nD} (hdev : dev = e.2) (hdev' : dev' = e.2) {q q' p p' : DmaSem sig} (hq : q = ss (e.1, false) s) (hq' : q' = rs (e.1, false))
    (hp : p = ss (e.1, true) s) (hp' : p' = rs (e.1, true))
    {h1 h2 : (Memref.whole (ref (e.1, false)) : Memref sig .tc _ _ _).view.WordExact}
    {hsc : (Memref.whole (ref (e.1, false)) : Memref sig (Dev.tc dev : Thread nD τ).2.kind _ _ _).view.ref.isScScratch = false}
    {h3 : DmaTarget.Typed _ (.dma q') (.remote (Dev.tc dev : Thread nD τ) (Memref.whole (ref (e.1, false)) : Memref sig .tc _ _ _) (.dma q) hsc)}
    {g1 g2 : (Memref.whole (ref (e.1, true)) : Memref sig .tc _ _ _).view.WordExact}
    {gsc : (Memref.whole (ref (e.1, true)) : Memref sig (Dev.tc dev' : Thread nD τ).2.kind _ _ _).view.ref.isScScratch = false}
    {g3 : DmaTarget.Typed _ (.dma p') (.remote (Dev.tc dev' : Thread nD τ) (Memref.whole (ref (e.1, true)) : Memref sig .tc _ _ _) (.dma p) gsc)} :
    iprop(env (F := F) m K ∗ chunk m c e.1 (qs s) ∗ room (F := F) e.2 e.1 ∗ Ow c (oweOut (e :: l)) ∗ etk e)
      ⊢ iprop(((scr c e ∗ Ow c (oweOut l))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole (ref (e.1, false)) : Memref sig .tc _ _ _)
                (.remote (Dev.tc dev : Thread nD τ) (Memref.whole (ref (e.1, false)) : Memref sig .tc _ _ _) (.dma q) hsc) (.dma q') h1 h2 h3) fun _ =>
              .op (.enqueueDma (Memref.whole (ref (e.1, true)) : Memref sig .tc _ _ _)
                (.remote (Dev.tc dev' : Thread nD τ) (Memref.whole (ref (e.1, true)) : Memref sig .tc _ _ _) (.dma p) gsc) (.dma p') g1 g2 g3) k) Q) := by
  subst hs
  unfold chunk room etk scr
  iintro ⟨#He, ⟨Hk, Hv⟩, ⟨Rk, Rv⟩, Ho, ⟨⟨T1, T2⟩, T3, T4⟩⟩ Hc
  iapply (step_send m K c e false he (oweOut l + tallyAt (kcell (e.2, recvC (e.1, true))) () (N (e.1, true))) hdev hq hq') $$ [Hk Rk Ho T1 T3]
  · isplitr; · iexact He
    isplitl [Hk]; · iexact Hk
    isplitl [Rk]; · iexact Rk
    isplitl [Ho]; · iexact Ho
    isplitl [T3] <;> iassumption
  iintro ⟨C1, Ho⟩
  iapply (step_send m K c e true he (oweOut l) hdev' hp hp') $$ [Hv Rv Ho T2 T4]
  · isplitr; · iexact He
    isplitl [Hv]; · iexact Hv
    isplitl [Rv]; · iexact Rv
    isplitl [Ho]; · iexact Ho
    isplitl [T4] <;> iassumption
  iintro ⟨C2, Ho⟩
  iapply Hc
  isplitl [C1 C2]
  · isplitl [C1] <;> iassumption
  iexact Ho

/-- A chunk lands: the wait for its keys, then for its values. -/
theorem landed {α : Type} {Q : α → sProp 𝕄} {k : PUnit → Prog (TpuEff nD τ sig (Elt F) Λ₀ .tc) α}
    (c : Dev nD) (ch : Bool) (S : List Cl) (l : List Ed) (hS : recvC (ch, false) ∉ S) (hS' : recvC (ch, true) ∉ S) (hne : c ≠ owner ch)
    (hO : ∀ e ∈ l, depth ch c < depth e.1 e.2)
    {q p : DmaSem sig} (hq : q = rs (ch, false)) (hp : p = rs (ch, true))
    {h1 h2 : (Memref.whole (ref (ch, false)) : Memref sig .tc _ _ _).view.WordExact}
    {g1 g2 : (Memref.whole (ref (ch, true)) : Memref sig .tc _ _ _).view.WordExact} :
    iprop(env (F := F) m K ∗ rcr c ch ∗ Ow c (oweOut l) ∗ posns m c S)
      ⊢ iprop(((Ow c (oweOut l) ∗ posns m c (recvC (ch, true) :: recvC (ch, false) :: S) ∗ chunk m c ch fullShare)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (Memref.whole (ref (ch, false)) : Memref sig .tc _ _ _) (Memref.whole (ref (ch, false)) : Memref sig .tc _ _ _) h1 h2) fun _ =>
               .op (.waitDma2 p (Memref.whole (ref (ch, true)) : Memref sig .tc _ _ _) (Memref.whole (ref (ch, true)) : Memref sig .tc _ _ _) g1 g2) k) Q) := by
  subst hq hp
  have hd (v : Bool) : dut c (recvC (ch, v)) = {c} := if_neg hne
  have hO' (v : Bool) : ∀ e ∈ l, lvC c (recvC (ch, v)) < 1 + depth e.1 e.2 := fun e he => Nat.add_lt_add_left (hO e he) 1
  have hS2 : recvC (ch, true) ∉ recvC (ch, false) :: S := by simp [hS']
  unfold rcr chunk
  iintro ⟨#He, ⟨C1, C2⟩, Ho, Hp⟩ Hc
  iapply (step_wait m K c S (ch, false) none c l hS (hd false) (hO' false) rfl) $$ [C1 Ho Hp]
  · isplitr; · iexact He
    isplitl [C1]; · iexact C1
    isplitl [Ho] <;> iassumption
  iintro ⟨Ho, Hp, Hk⟩
  iapply (step_wait m K c (recvC (ch, false) :: S) (ch, true) none c l hS2 (hd true) (hO' true) rfl) $$ [C2 Ho Hp]
  · isplitr; · iexact He
    isplitl [C2]; · iexact C2
    isplitl [Ho] <;> iassumption
  iintro ⟨Ho, Hp, Hv⟩
  iapply Hc
  isplitl [Ho]; · iexact Ho
  isplitl [Hp]; · iexact Hp
  isplitl [Hk]
  · iapply (Entails.of_eq (pay_recv m c c (ch, false))) $$ Hk
  · iapply (Entails.of_eq (pay_recv m c c (ch, true))) $$ Hv

/-- A delivery's shares come back: the wait for the keys', then for the values'. -/
theorem returned {α : Type} {Q : α → sProp 𝕄} {k : PUnit → Prog (TpuEff nD τ sig (Elt F) Λ₀ .tc) α}
    (c : Dev nD) (e : Ed) (S : List Cl) (l : List Ed) (he : e ∈ outs c) (s : Fin 3) (hs : slot e.1 e.2 = s) (hS : sendC (e.1, false) s ∉ S) (hS' : sendC (e.1, true) s ∉ S)
    {q p : DmaSem sig} (hq : q = ss (e.1, false) s) (hp : p = ss (e.1, true) s)
    {h1 h2 : (Memref.whole (ref (e.1, false)) : Memref sig .tc _ _ _).view.WordExact}
    {g1 g2 : (Memref.whole (ref (e.1, true)) : Memref sig .tc _ _ _).view.WordExact} :
    iprop(env (F := F) m K ∗ scr c e ∗ Ow c (oweOut l) ∗ posns m c S)
      ⊢ iprop(((Ow c (oweOut l) ∗ posns m c (sendC (e.1, true) s :: sendC (e.1, false) s :: S) ∗ chunk m c e.1 (qs s))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (Memref.whole (ref (e.1, false)) : Memref sig .tc _ _ _) (Memref.whole (ref (e.1, false)) : Memref sig .tc _ _ _) h1 h2) fun _ =>
               .op (.waitDma2 p (Memref.whole (ref (e.1, true)) : Memref sig .tc _ _ _) (Memref.whole (ref (e.1, true)) : Memref sig .tc _ _ _) g1 g2) k) Q) := by
  subst hs
  subst hq hp
  obtain ⟨hne, hsrc, -⟩ := mem_outs c e he
  have hd (v : Bool) : dut c (sendC (e.1, v) (slot e.1 e.2)) = {e.2} := by
    have := dut_send e hne v; rw [hsrc] at this; exact this
  have hO' (v : Bool) : ∀ e' ∈ l, lvC c (sendC (e.1, v) (slot e.1 e.2)) < 1 + depth e'.1 e'.2 := fun e' _ =>
    Nat.lt_of_lt_of_le Nat.zero_lt_one (Nat.le_add_right 1 _)
  have hS2 : sendC (e.1, true) (slot e.1 e.2) ∉ sendC (e.1, false) (slot e.1 e.2) :: S := by simp [hS']
  unfold scr chunk
  iintro ⟨#He, ⟨C1, C2⟩, Ho, Hp⟩ Hc
  iapply (step_wait m K c S (e.1, false) (some (slot e.1 e.2)) e.2 l hS (hd false) (hO' false) rfl) $$ [C1 Ho Hp]
  · isplitr; · iexact He
    isplitl [C1]; · iexact C1
    isplitl [Ho] <;> iassumption
  iintro ⟨Ho, Hp, Hk⟩
  iapply (step_wait m K c (sendC (e.1, false) (slot e.1 e.2) :: S) (e.1, true) (some (slot e.1 e.2)) e.2 l hS2 (hd true) (hO' true) rfl) $$ [C2 Ho Hp]
  · isplitr; · iexact He
    isplitl [C2]; · iexact C2
    isplitl [Ho] <;> iassumption
  iintro ⟨Ho, Hp, Hv⟩
  iapply Hc
  isplitl [Ho]; · iexact Ho
  isplitl [Hp]; · iexact Hp
  isplitl [Hk]
  · iapply (Entails.of_eq (pay_send m c e.2 (e.1, false) (slot e.1 e.2))) $$ Hk
  · iapply (Entails.of_eq (pay_send m c e.2 (e.1, true) (slot e.1 e.2))) $$ Hv

end Pairs

/-! ## Before and after the exchange -/

/-- Device `c`'s staged key and value blocks, whole. -/
def staged (c : Dev nD) : sProp 𝕄 :=
  iprop((((c : Thread nD τ).loc cc0_stg2_0) ↦{fullShare} kst m c) ∗ (((c : Thread nD τ).loc cc0_stg3_0) ↦{fullShare} vst m c))

/-- What a device starts the exchange with. -/
def commPre (K : Dev nD × Cl → ℕ) (c : Dev nD) : sProp 𝕄 :=
  iprop(env (F := F) m K ∗ Ow c (O₀ c) ∗ posns m c [] ∗ (btks (F := F) c (ins c) ∗ etks (F := F) (outs c))
    ∗ (crd c barC (outs c).length ∗ rcrs (F := F) c (ins c)) ∗ (room (F := F) c false ∗ room (F := F) c true) ∗ staged m c)

/-- What it ends the exchange with: both chunks, every cell closed, nothing owed. -/
def commPost (c : Dev nD) : sProp 𝕄 :=
  iprop(Ow c 0 ∗ (bigSep Finset.univ fun k : Cl => semVal (kcell (c, k)) 0) ∗ (chunk (F := F) m c false fullShare ∗ chunk m c true fullShare) ∗ staged m c)

end Cert.KernelIdealProof

end
-- ==== Proof.KI.Comm.lean ====
/-
The exchange on each of the eight devices: the branch of the body that device takes, step by step.
-/
module

public import proofs.«01_k».proof.Proof.KI.Pairs
public import Idealize.ShloMosaic.Lib.Pipeline.Launch
public import Idealize.ShloMosaic.Lib.Pipeline.BigSepL
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body's exchange, at the buffers it is launched with. -/
abbrev exch : Prog (TpuEff nD τ sig (Elt F) Λ₀ .tc) (Σ' (_ : IVec S256x384 32), BitVec 32) :=
  k0_part13 (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5

/-- What the exchange on device `c` is shown to do. -/
abbrev Exchanges (K : Dev nD × Cl → ℕ) (c : Dev nD) : Prop :=
  ∀ Q : (Σ' (_ : IVec S256x384 32), BitVec 32) → sProp 𝕄,
    commPre (F := F) m K c ⊢ iprop((commPost m c -∗ Q ⟨k0_pay6, 128#32⟩) -∗ wp frame (wpE (defs₀ (F := F)) 𝒱₀ (c : Thread nD τ) none) Set.univ (exch (F := F)) Q)

/-! The branch a device takes. -/
theorem cond1 : ∀ c : Dev nD, k0_cond1 c = 1#1 ↔ c = 0 := by decide
theorem cond2 : ∀ c : Dev nD, k0_cond2 c = 1#1 ↔ c = 1 := by decide
theorem cond3 : ∀ c : Dev nD, k0_cond3 c = 1#1 ↔ c = 2 := by decide
theorem cond4 : ∀ c : Dev nD, k0_cond4 c = 1#1 ↔ c = 3 := by decide
theorem cond5 : ∀ c : Dev nD, k0_cond5 c = 1#1 ↔ c = 4 := by decide
theorem cond6 : ∀ c : Dev nD, k0_cond6 c = 1#1 ↔ c = 5 := by decide
theorem cond7 : ∀ c : Dev nD, k0_cond7 c = 1#1 ↔ c = 6 := by decide
theorem cond8 : ∀ c : Dev nD, k0_cond8 c = 1#1 ↔ c = 7 := by decide

variable (K : Dev nD × Cl → ℕ)

/-- The exchange's end: the cells that served are at their round, the others serve nothing. -/
theorem finish {α : Type} {Q : α → sProp 𝕄} (c : Dev nD) (S : List Cl) (hS : ∀ k, k ∉ S → dut c k = ∅) (r : α) :
    iprop(env (F := F) m K ∗ Ow c (oweOut []) ∗ posns m c S ∗ (chunk m c false fullShare ∗ chunk m c true fullShare) ∗ staged m c)
      ⊢ iprop((commPost m c -∗ Q r) -∗ wp frame (wpE (defs₀ (F := F)) 𝒱₀ (c : Thread nD τ) none) Set.univ (.ret r) Q) := by
  iintro ⟨#He, Ho, Hp, Hch, Hst⟩ Hc
  imod (posns_close m K c S hS) $$ [Hp] with Hz
  · isplitr; · iexact He
    iexact Hp
  rw [wp_ret]
  imodintro
  iapply Hc
  unfold commPost
  isplitl [Ho]; · iexact Ho
  isplitl [Hz]; · iexact Hz
  isplitl [Hch] <;> iassumption

/-! The steps, taking their resources one by one. -/

theorem one {P A R : sProp 𝕄} (h : iprop(P ∗ A) ⊢ R) : P ⊢ iprop(A -∗ R) := by
  iintro HP HA; iapply h; isplitl [HP] <;> iassumption
theorem two {P A B R : sProp 𝕄} (h : iprop(P ∗ A ∗ B) ⊢ R) : P ⊢ iprop(A -∗ B -∗ R) := by
  iintro HP HA HB; iapply h; isplitl [HP]; · iexact HP
  isplitl [HA] <;> iassumption
theorem three {P A B C R : sProp 𝕄} (h : iprop(P ∗ A ∗ B ∗ C) ⊢ R) : P ⊢ iprop(A -∗ B -∗ C -∗ R) := by
  iintro HP HA HB HC; iapply h; isplitl [HP]; · iexact HP
  isplitl [HA]; · iexact HA
  isplitl [HB] <;> iassumption
theorem four {P A B C D R : sProp 𝕄} (h : iprop(P ∗ A ∗ B ∗ C ∗ D) ⊢ R) : P ⊢ iprop(A -∗ B -∗ C -∗ D -∗ R) := by
  iintro HP HA HB HC HD; iapply h; isplitl [HP]; · iexact HP
  isplitl [HA]; · iexact HA
  isplitl [HB]; · iexact HB
  isplitl [HC] <;> iassumption

/-- The token of one announcement. -/
def btk (c : Dev nD) (e : Ed) : sProp 𝕄 := tok (F := F) (src e.1 e.2, barC, c)

theorem announce {α : Type} {Q : α → sProp 𝕄} {k : PUnit → Prog (TpuEff nD τ sig (Elt F) Λ₀ .tc) α}
    (c : Dev nD) (e : Ed) (l : List Ed) (O : CellTallies nD τ sig Unit) (he : e ∈ ins c)
    {dev : Dev nD} (hdev : dev = src e.1 e.2) {sm : Sem sig} (hsm : sm = barS) :
    env (F := F) m K ⊢ iprop(Ow c (oweIn (e :: l) O) -∗ btk c e -∗ room (F := F) c e.1
      -∗ (Ow c (oweIn l O) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dev, Proc.tc) sm (1#32).toInt) k) Q) :=
  three (step_sig m K c e l O he hdev hsm (n := 1) rfl)

theorem announce_last {α : Type} {Q : α → sProp 𝕄} {k : PUnit → Prog (TpuEff nD τ sig (Elt F) Λ₀ .tc) α}
    (c : Dev nD) (e : Ed) (O : CellTallies nD τ sig Unit) (he : e ∈ ins c)
    {dev : Dev nD} (hdev : dev = src e.1 e.2) {sm : Sem sig} (hsm : sm = barS) :
    env (F := F) m K ⊢ iprop(Ow c (oweIn [e] O) -∗ btk c e -∗ room (F := F) c e.1
      -∗ (Ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dev, Proc.tc) sm (1#32).toInt) k) Q) :=
  announce m K c e [] O he hdev hsm

theorem barrier {α : Type} {Q : α → sProp 𝕄} {k : PUnit → Prog (TpuEff nD τ sig (Elt F) Λ₀ .tc) α}
    (c : Dev nD) (S : List Cl) (l : List Ed) (hl : outs c = l) (hS : barC ∉ S) {sm : Sem sig} (hsm : sm = barS) {n : ℤ} (hn : n = ((l.length : ℕ) : ℤ)) :
    env (F := F) m K ⊢ iprop(crd c barC (outs c).length -∗ Ow c (oweOut l) -∗ posns m c S
      -∗ ((Ow c (oweOut l) ∗ posns m c (barC :: S) ∗ lands (F := F) l)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm n) k) Q) := by
  subst hl hn
  exact three (step_bar m K c S hS hsm rfl)

/-- The cells of a chunk's landing, and of a delivery's return, on a list. -/
abbrev rcv (ch : Bool) (S : List Cl) : List Cl := recvC (ch, true) :: recvC (ch, false) :: S
abbrev snt (ch : Bool) (s : Fin 3) (S : List Cl) : List Cl := sendC (ch, true) s :: sendC (ch, false) s :: S

/-! The owners' copies of their blocks into the landing buffers. -/

theorem hz4 : (![0, 0, 0, 0] : Fin 4 → Nat) = fun _ => 0 := funext fun a => by fin_cases a <;> rfl

theorem fill0 (f) : ((Memref.whole cc0_scratch0).access (Rect.unit (s := S2x256x4x64) ![0, 0, 0, 0] S2x256x4x64.size inb_S2x256x4x64_S2x256x4x64_0_0_0_0) : View sig .tc _ _ _).write (Elt F) f
    (k0_pay2 ((Memref.whole cc0_stg2_0).view.readAt (Elt F) (Rect.unit (s := S2x256x4x64) ![0, 0, 0, 0] S2x256x4x64.size inb_S2x256x4x64_S2x256x4x64_0_0_0_0).toLoadRect (kst m 0))) Finset.univ
      = cont m (false, false) := by
  rw [show (Memref.whole cc0_stg2_0).view.readAt (Elt F) (Rect.unit (s := S2x256x4x64) ![0, 0, 0, 0] S2x256x4x64.size inb_S2x256x4x64_S2x256x4x64_0_0_0_0).toLoadRect (kst m 0) = kst m 0 from
    Memref.readAt_unit_zero (Elt F) cc0_stg2_0 hz4 _ _]
  exact Memref.write_access_unit_zero_univ (Elt F) cc0_scratch0 hz4 _ f _
theorem fill1 (f) : ((Memref.whole cc0_scratch1).access (Rect.unit (s := S2x256x4x64) ![0, 0, 0, 0] S2x256x4x64.size inb_S2x256x4x64_S2x256x4x64_0_0_0_0) : View sig .tc _ _ _).write (Elt F) f
    (k0_pay3 ((Memref.whole cc0_stg3_0).view.readAt (Elt F) (Rect.unit (s := S2x256x4x64) ![0, 0, 0, 0] S2x256x4x64.size inb_S2x256x4x64_S2x256x4x64_0_0_0_0).toLoadRect (vst m 0))) Finset.univ
      = cont m (false, true) := by
  rw [show (Memref.whole cc0_stg3_0).view.readAt (Elt F) (Rect.unit (s := S2x256x4x64) ![0, 0, 0, 0] S2x256x4x64.size inb_S2x256x4x64_S2x256x4x64_0_0_0_0).toLoadRect (vst m 0) = vst m 0 from
    Memref.readAt_unit_zero (Elt F) cc0_stg3_0 hz4 _ _]
  exact Memref.write_access_unit_zero_univ (Elt F) cc0_scratch1 hz4 _ f _
theorem fill2 (f) : ((Memref.whole cc0_scratch2).access (Rect.unit (s := S2x128x4x64) ![0, 0, 0, 0] S2x128x4x64.size inb_S2x128x4x64_S2x128x4x64_0_0_0_0) : View sig .tc _ _ _).write (Elt F) f
    (k0_pay4 ((Memref.whole cc0_stg2_0).view.readAt (Elt F) rHalf.toLoadRect (kst m 1))) Finset.univ = cont m (true, false) :=
  Memref.write_access_unit_zero_univ (Elt F) cc0_scratch2 hz4 _ f _
theorem fill3 (f) : ((Memref.whole cc0_scratch3).access (Rect.unit (s := S2x128x4x64) ![0, 0, 0, 0] S2x128x4x64.size inb_S2x128x4x64_S2x128x4x64_0_0_0_0) : View sig .tc _ _ _).write (Elt F) f
    (k0_pay5 ((Memref.whole cc0_stg3_0).view.readAt (Elt F) rHalf.toLoadRect (vst m 1))) Finset.univ = cont m (true, true) :=
  Memref.write_access_unit_zero_univ (Elt F) cc0_scratch3 hz4 _ f _

theorem chunk_of (c : Dev nD) (ch : Bool) (fk : (ref (ch, false)).ty.Contents (Elt F)) (fv : (ref (ch, true)).ty.Contents (Elt F)) (hk : fk = cont m (ch, false)) (hv : fv = cont m (ch, true)) :
    iprop((((c : Thread nD τ).loc (ref (ch, false))) ↦{fullShare} (fk : Buf (Elt F) ((c : Thread nD τ).loc (ref (ch, false)))))
      ∗ (((c : Thread nD τ).loc (ref (ch, true))) ↦{fullShare} (fv : Buf (Elt F) ((c : Thread nD τ).loc (ref (ch, true)))))) ⊢ chunk (F := F) m c ch fullShare := by
  subst hk hv
  exact Entails.rfl
theorem staged_of (c : Dev nD) :
    iprop((((c : Thread nD τ).loc cc0_stg2_0) ↦{fullShare} kst (F := F) m c) ∗ (((c : Thread nD τ).loc cc0_stg3_0) ↦{fullShare} vst m c)) ⊢ staged m c := Entails.rfl

theorem comm0 : Exchanges (F := F) m K 0 := by
  intro Q
  unfold exch
  rw [k0_part13_eq_skeleton]
  unfold k0_part13_skel
  simp (config := {decide := true}) only [Prog.lift, Prog.bind_op, Prog.bind_ret, Prog.pure_eq_ret, wp_deviceId, cond1, cond2, cond3, cond4, cond5, cond6, cond7, cond8,
    ↓reduceDIte, semSignalWord, semWaitWord, k0_part1_eq_skeleton, k0_part1_skel, k0_part2_eq_skeleton, k0_part2_skel, k0_part3_eq_skeleton, k0_part3_skel]
  rw [show commPre (F := F) m K 0 = iprop(env m K ∗ Ow 0 (oweIn [(true, 0)] (oweOut [(false, 1), (false, 3), (false, 4), (true, 7)])) ∗ posns m 0 []
      ∗ ((btk 0 (true, 0) ∗ emp) ∗ etk (false, 1) ∗ etk (false, 3) ∗ etk (false, 4) ∗ etk (true, 7) ∗ emp)
      ∗ (crd 0 barC (outs 0).length ∗ rcr 0 true ∗ emp) ∗ (room 0 false ∗ room 0 true) ∗ staged m 0) from rfl]
  iintro ⟨#He, Ho, Hp, ⟨⟨Btrue, _E1⟩, ⟨Tfalse1, Tfalse3, Tfalse4, Ttrue7, _E2⟩⟩, ⟨Cb, Ctrue, _E3⟩, ⟨Rfalse, Rtrue⟩, Hst⟩ Hc
  iapply (announce_last m K 0 (true, 0) (oweOut [(false, 1), (false, 3), (false, 4), (true, 7)]) (by decide) rfl rfl) $$ He Ho Btrue Rtrue
  iintro Ho
  unfold staged room bany bpts
  icases Hst with ⟨Hsk, Hsv⟩
  icases Rfalse with ⟨⟨%fk, Rk⟩, %fv, Rv⟩
  iapply (wp_load 𝒱₀ ((0 : Dev nD) : Thread nD τ) none Set.univ (m := Memref.whole cc0_stg2_0) (Finset.subset_univ _)) $$ Hsk; iintro Hsk
  iapply (wp_load 𝒱₀ ((0 : Dev nD) : Thread nD τ) none Set.univ (m := Memref.whole cc0_scratch0) (Finset.subset_univ _)) $$ Rk; iintro Rk
  iapply (wp_store 𝒱₀ ((0 : Dev nD) : Thread nD τ) none Set.univ (m := Memref.whole cc0_scratch0) (r := Rect.unit (s := S2x256x4x64) ![0, 0, 0, 0] S2x256x4x64.size inb_S2x256x4x64_S2x256x4x64_0_0_0_0) (Mk := Finset.univ) (Finset.subset_univ _)) $$ Rk; iintro Rk
  iapply (wp_load 𝒱₀ ((0 : Dev nD) : Thread nD τ) none Set.univ (m := Memref.whole cc0_stg3_0) (Finset.subset_univ _)) $$ Hsv; iintro Hsv
  iapply (wp_load 𝒱₀ ((0 : Dev nD) : Thread nD τ) none Set.univ (m := Memref.whole cc0_scratch1) (Finset.subset_univ _)) $$ Rv; iintro Rv
  iapply (wp_store 𝒱₀ ((0 : Dev nD) : Thread nD τ) none Set.univ (m := Memref.whole cc0_scratch1) (r := Rect.unit (s := S2x256x4x64) ![0, 0, 0, 0] S2x256x4x64.size inb_S2x256x4x64_S2x256x4x64_0_0_0_0) (Mk := Finset.univ) (Finset.subset_univ _)) $$ Rv; iintro Rv
  ihave Hfalse := (chunk_of m 0 false _ _ (fill0 m _) (fill1 m _)) $$ [Rk Rv]
  · isplitl [Rk] <;> iassumption
  ihave Hst := (staged_of m 0) $$ [Hsk Hsv]
  · isplitl [Hsk] <;> iassumption
  iapply (barrier m K 0 [] [(false, 1), (false, 3), (false, 4), (true, 7)] rfl (by decide) rfl rfl) $$ He Cb Ho Hp
  iintro ⟨Ho, Hp, Hl⟩
  ihave Hl' := (Entails.of_eq (show lands (F := F) [(false, 1), (false, 3), (false, 4), (true, 7)] = iprop(room 1 false ∗ room 3 false ∗ room 4 false ∗ room 7 true ∗ emp) from rfl)) $$ Hl
  icases Hl' with ⟨Lfalse1, Lfalse3, Lfalse4, Ltrue7, _E4⟩
  ihave Hs := (chunk_split m 0 false) $$ Hfalse
  icases Hs with ⟨Hfalse0, Hfalse1, Hfalse2⟩
  iapply (four (deliver m K 0 (false, 1) [(false, 3), (false, 4), (true, 7)] (by decide) 0 rfl rfl rfl rfl rfl rfl rfl)) $$ He Hfalse0 Lfalse1 Ho Tfalse1
  iintro ⟨Dfalse1, Ho⟩
  iapply (four (deliver m K 0 (false, 3) [(false, 4), (true, 7)] (by decide) 1 rfl rfl rfl rfl rfl rfl rfl)) $$ He Hfalse1 Lfalse3 Ho Tfalse3
  iintro ⟨Dfalse3, Ho⟩
  iapply (four (deliver m K 0 (false, 4) [(true, 7)] (by decide) 2 rfl rfl rfl rfl rfl rfl rfl)) $$ He Hfalse2 Lfalse4 Ho Tfalse4
  iintro ⟨Dfalse4, Ho⟩
  iapply (three (landed m K 0 true [barC] [(true, 7)] (by decide) (by decide) (by decide) (by decide) rfl rfl)) $$ He Ctrue Ho Hp
  iintro ⟨Ho, Hp, Htrue⟩
  ihave Hs := (chunk_split m 0 true) $$ Htrue
  icases Hs with ⟨Htrue0, Htrue1, Htrue2⟩
  iapply (four (deliver m K 0 (true, 7) [] (by decide) 0 rfl rfl rfl rfl rfl rfl rfl)) $$ He Htrue0 Ltrue7 Ho Ttrue7
  iintro ⟨Dtrue7, Ho⟩
  iapply (three (returned m K 0 (false, 1) (rcv true [barC]) [] (by decide) 0 rfl (by decide) (by decide) rfl rfl)) $$ He Dfalse1 Ho Hp
  iintro ⟨Ho, Hp, Hfalse0⟩
  iapply (three (returned m K 0 (false, 3) (snt false 0 (rcv true [barC])) [] (by decide) 1 rfl (by decide) (by decide) rfl rfl)) $$ He Dfalse3 Ho Hp
  iintro ⟨Ho, Hp, Hfalse1⟩
  iapply (three (returned m K 0 (false, 4) (snt false 1 (snt false 0 (rcv true [barC]))) [] (by decide) 2 rfl (by decide) (by decide) rfl rfl)) $$ He Dfalse4 Ho Hp
  iintro ⟨Ho, Hp, Hfalse2⟩
  iapply (three (returned m K 0 (true, 7) (snt false 2 (snt false 1 (snt false 0 (rcv true [barC])))) [] (by decide) 0 rfl (by decide) (by decide) rfl rfl)) $$ He Dtrue7 Ho Hp
  iintro ⟨Ho, Hp, Htrue0⟩
  ihave Hfalse := (chunk_join m 0 false) $$ [Hfalse0 Hfalse1 Hfalse2]
  · isplitl [Hfalse0]; · iexact Hfalse0
    isplitl [Hfalse1]; · iexact Hfalse1
    iexact Hfalse2
  ihave Htrue := (chunk_join m 0 true) $$ [Htrue0 Htrue1 Htrue2]
  · isplitl [Htrue0]; · iexact Htrue0
    isplitl [Htrue1]; · iexact Htrue1
    iexact Htrue2
  iapply (finish m K 0 (snt true 0 (snt false 2 (snt false 1 (snt false 0 (rcv true [barC]))))) (by decide) _) $$ [Ho Hp Hfalse Htrue Hst]
  · isplitr; · iexact He
    isplitl [Ho]; · iexact Ho
    isplitl [Hp]; · iexact Hp
    isplitl [Hfalse Htrue]
    · isplitl [Hfalse] <;> iassumption
    iexact Hst
  iexact Hc

theorem comm1 : Exchanges (F := F) m K 1 := by
  intro Q
  unfold exch
  rw [k0_part13_eq_skeleton]
  unfold k0_part13_skel
  simp (config := {decide := true}) only [Prog.lift, Prog.bind_op, Prog.bind_ret, Prog.pure_eq_ret, wp_deviceId, cond1, cond2, cond3, cond4, cond5, cond6, cond7, cond8,
    ↓reduceDIte, semSignalWord, semWaitWord, k0_part4_eq_skeleton, k0_part4_skel, k0_part5_eq_skeleton, k0_part5_skel, k0_part6_eq_skeleton, k0_part6_skel]
  rw [show commPre (F := F) m K 1 = iprop(env m K ∗ Ow 1 (oweIn [(false, 1)] (oweOut [(true, 0), (true, 2), (true, 5), (false, 6)])) ∗ posns m 1 []
      ∗ ((btk 1 (false, 1) ∗ emp) ∗ etk (true, 0) ∗ etk (true, 2) ∗ etk (true, 5) ∗ etk (false, 6) ∗ emp)
      ∗ (crd 1 barC (outs 1).length ∗ rcr 1 false ∗ emp) ∗ (room 1 false ∗ room 1 true) ∗ staged m 1) from rfl]
  iintro ⟨#He, Ho, Hp, ⟨⟨Bfalse, _E1⟩, ⟨Ttrue0, Ttrue2, Ttrue5, Tfalse6, _E2⟩⟩, ⟨Cb, Cfalse, _E3⟩, ⟨Rfalse, Rtrue⟩, Hst⟩ Hc
  iapply (announce_last m K 1 (false, 1) (oweOut [(true, 0), (true, 2), (true, 5), (false, 6)]) (by decide) rfl rfl) $$ He Ho Bfalse Rfalse
  iintro Ho
  unfold staged room bany bpts
  icases Hst with ⟨Hsk, Hsv⟩
  icases Rtrue with ⟨⟨%fk, Rk⟩, %fv, Rv⟩
  iapply (wp_load 𝒱₀ ((1 : Dev nD) : Thread nD τ) none Set.univ (m := Memref.whole cc0_stg2_0) (Finset.subset_univ _)) $$ Hsk; iintro Hsk
  iapply (wp_load 𝒱₀ ((1 : Dev nD) : Thread nD τ) none Set.univ (m := Memref.whole cc0_scratch2) (Finset.subset_univ _)) $$ Rk; iintro Rk
  iapply (wp_store 𝒱₀ ((1 : Dev nD) : Thread nD τ) none Set.univ (m := Memref.whole cc0_scratch2) (r := Rect.unit (s := S2x128x4x64) ![0, 0, 0, 0] S2x128x4x64.size inb_S2x128x4x64_S2x128x4x64_0_0_0_0) (Mk := Finset.univ) (Finset.subset_univ _)) $$ Rk; iintro Rk
  iapply (wp_load 𝒱₀ ((1 : Dev nD) : Thread nD τ) none Set.univ (m := Memref.whole cc0_stg3_0) (Finset.subset_univ _)) $$ Hsv; iintro Hsv
  iapply (wp_load 𝒱₀ ((1 : Dev nD) : Thread nD τ) none Set.univ (m := Memref.whole cc0_scratch3) (Finset.subset_univ _)) $$ Rv; iintro Rv
  iapply (wp_store 𝒱₀ ((1 : Dev nD) : Thread nD τ) none Set.univ (m := Memref.whole cc0_scratch3) (r := Rect.unit (s := S2x128x4x64) ![0, 0, 0, 0] S2x128x4x64.size inb_S2x128x4x64_S2x128x4x64_0_0_0_0) (Mk := Finset.univ) (Finset.subset_univ _)) $$ Rv; iintro Rv
  ihave Htrue := (chunk_of m 1 true _ _ (fill2 m _) (fill3 m _)) $$ [Rk Rv]
  · isplitl [Rk] <;> iassumption
  ihave Hst := (staged_of m 1) $$ [Hsk Hsv]
  · isplitl [Hsk] <;> iassumption
  iapply (barrier m K 1 [] [(true, 0), (true, 2), (true, 5), (false, 6)] rfl (by decide) rfl rfl) $$ He Cb Ho Hp
  iintro ⟨Ho, Hp, Hl⟩
  ihave Hl' := (Entails.of_eq (show lands (F := F) [(true, 0), (true, 2), (true, 5), (false, 6)] = iprop(room 0 true ∗ room 2 true ∗ room 5 true ∗ room 6 false ∗ emp) from rfl)) $$ Hl
  icases Hl' with ⟨Ltrue0, Ltrue2, Ltrue5, Lfalse6, _E4⟩
  ihave Hs := (chunk_split m 1 true) $$ Htrue
  icases Hs with ⟨Htrue0, Htrue1, Htrue2⟩
  iapply (four (deliver m K 1 (true, 0) [(true, 2), (true, 5), (false, 6)] (by decide) 0 rfl rfl rfl rfl rfl rfl rfl)) $$ He Htrue0 Ltrue0 Ho Ttrue0
  iintro ⟨Dtrue0, Ho⟩
  iapply (four (deliver m K 1 (true, 2) [(true, 5), (false, 6)] (by decide) 1 rfl rfl rfl rfl rfl rfl rfl)) $$ He Htrue1 Ltrue2 Ho Ttrue2
  iintro ⟨Dtrue2, Ho⟩
  iapply (four (deliver m K 1 (true, 5) [(false, 6)] (by decide) 2 rfl rfl rfl rfl rfl rfl rfl)) $$ He Htrue2 Ltrue5 Ho Ttrue5
  iintro ⟨Dtrue5, Ho⟩
  iapply (three (landed m K 1 false [barC] [(false, 6)] (by decide) (by decide) (by decide) (by decide) rfl rfl)) $$ He Cfalse Ho Hp
  iintro ⟨Ho, Hp, Hfalse⟩
  ihave Hs := (chunk_split m 1 false) $$ Hfalse
  icases Hs with ⟨Hfalse0, Hfalse1, Hfalse2⟩
  iapply (four (deliver m K 1 (false, 6) [] (by decide) 0 rfl rfl rfl rfl rfl rfl rfl)) $$ He Hfalse0 Lfalse6 Ho Tfalse6
  iintro ⟨Dfalse6, Ho⟩
  iapply (three (returned m K 1 (true, 0) (rcv false [barC]) [] (by decide) 0 rfl (by decide) (by decide) rfl rfl)) $$ He Dtrue0 Ho Hp
  iintro ⟨Ho, Hp, Htrue0⟩
  iapply (three (returned m K 1 (true, 2) (snt true 0 (rcv false [barC])) [] (by decide) 1 rfl (by decide) (by decide) rfl rfl)) $$ He Dtrue2 Ho Hp
  iintro ⟨Ho, Hp, Htrue1⟩
  iapply (three (returned m K 1 (true, 5) (snt true 1 (snt true 0 (rcv false [barC]))) [] (by decide) 2 rfl (by decide) (by decide) rfl rfl)) $$ He Dtrue5 Ho Hp
  iintro ⟨Ho, Hp, Htrue2⟩
  iapply (three (returned m K 1 (false, 6) (snt true 2 (snt true 1 (snt true 0 (rcv false [barC])))) [] (by decide) 0 rfl (by decide) (by decide) rfl rfl)) $$ He Dfalse6 Ho Hp
  iintro ⟨Ho, Hp, Hfalse0⟩
  ihave Hfalse := (chunk_join m 1 false) $$ [Hfalse0 Hfalse1 Hfalse2]
  · isplitl [Hfalse0]; · iexact Hfalse0
    isplitl [Hfalse1]; · iexact Hfalse1
    iexact Hfalse2
  ihave Htrue := (chunk_join m 1 true) $$ [Htrue0 Htrue1 Htrue2]
  · isplitl [Htrue0]; · iexact Htrue0
    isplitl [Htrue1]; · iexact Htrue1
    iexact Htrue2
  iapply (finish m K 1 (snt false 0 (snt true 2 (snt true 1 (snt true 0 (rcv false [barC]))))) (by decide) _) $$ [Ho Hp Hfalse Htrue Hst]
  · isplitr; · iexact He
    isplitl [Ho]; · iexact Ho
    isplitl [Hp]; · iexact Hp
    isplitl [Hfalse Htrue]
    · isplitl [Hfalse] <;> iassumption
    iexact Hst
  iexact Hc

theorem comm2 : Exchanges (F := F) m K 2 := by
  intro Q
  unfold exch
  rw [k0_part13_eq_skeleton]
  unfold k0_part13_skel
  simp (config := {decide := true}) only [Prog.lift, Prog.bind_op, Prog.bind_ret, Prog.pure_eq_ret, wp_deviceId, cond1, cond2, cond3, cond4, cond5, cond6, cond7, cond8,
    ↓reduceDIte, semSignalWord, semWaitWord, k0_part7_eq_skeleton, k0_part7_skel]
  rw [show commPre (F := F) m K 2 = iprop(env m K ∗ Ow 2 (oweIn [(true, 2), (false, 2)] (oweOut [(true, 3)])) ∗ posns m 2 []
      ∗ ((btk 2 (true, 2) ∗ btk 2 (false, 2) ∗ emp) ∗ etk (true, 3) ∗ emp)
      ∗ (crd 2 barC (outs 2).length ∗ rcr 2 true ∗ rcr 2 false ∗ emp) ∗ (room 2 false ∗ room 2 true) ∗ staged m 2) from rfl]
  iintro ⟨#He, Ho, Hp, ⟨⟨Btrue, Bfalse, _E1⟩, ⟨Ttrue3, _E2⟩⟩, ⟨Cb, Ctrue, Cfalse, _E3⟩, ⟨Rfalse, Rtrue⟩, Hst⟩ Hc
  iapply (announce m K 2 (true, 2) [(false, 2)] (oweOut [(true, 3)]) (by decide) rfl rfl) $$ He Ho Btrue Rtrue
  iintro Ho
  iapply (announce_last m K 2 (false, 2) (oweOut [(true, 3)]) (by decide) rfl rfl) $$ He Ho Bfalse Rfalse
  iintro Ho
  iapply (barrier m K 2 [] [(true, 3)] rfl (by decide) rfl rfl) $$ He Cb Ho Hp
  iintro ⟨Ho, Hp, Hl⟩
  ihave Hl' := (Entails.of_eq (show lands (F := F) [(true, 3)] = iprop(room 3 true ∗ emp) from rfl)) $$ Hl
  icases Hl' with ⟨Ltrue3, _E4⟩
  iapply (three (landed m K 2 true [barC] [(true, 3)] (by decide) (by decide) (by decide) (by decide) rfl rfl)) $$ He Ctrue Ho Hp
  iintro ⟨Ho, Hp, Htrue⟩
  ihave Hs := (chunk_split m 2 true) $$ Htrue
  icases Hs with ⟨Htrue0, Htrue1, Htrue2⟩
  iapply (four (deliver m K 2 (true, 3) [] (by decide) 0 rfl rfl rfl rfl rfl rfl rfl)) $$ He Htrue0 Ltrue3 Ho Ttrue3
  iintro ⟨Dtrue3, Ho⟩
  iapply (three (landed m K 2 false (rcv true [barC]) [] (by decide) (by decide) (by decide) (by decide) rfl rfl)) $$ He Cfalse Ho Hp
  iintro ⟨Ho, Hp, Hfalse⟩
  iapply (three (returned m K 2 (true, 3) (rcv false (rcv true [barC])) [] (by decide) 0 rfl (by decide) (by decide) rfl rfl)) $$ He Dtrue3 Ho Hp
  iintro ⟨Ho, Hp, Htrue0⟩
  ihave Htrue := (chunk_join m 2 true) $$ [Htrue0 Htrue1 Htrue2]
  · isplitl [Htrue0]; · iexact Htrue0
    isplitl [Htrue1]; · iexact Htrue1
    iexact Htrue2
  iapply (finish m K 2 (snt true 0 (rcv false (rcv true [barC]))) (by decide) _) $$ [Ho Hp Hfalse Htrue Hst]
  · isplitr; · iexact He
    isplitl [Ho]; · iexact Ho
    isplitl [Hp]; · iexact Hp
    isplitl [Hfalse Htrue]
    · isplitl [Hfalse] <;> iassumption
    iexact Hst
  iexact Hc

theorem comm3 : Exchanges (F := F) m K 3 := by
  intro Q
  unfold exch
  rw [k0_part13_eq_skeleton]
  unfold k0_part13_skel
  simp (config := {decide := true}) only [Prog.lift, Prog.bind_op, Prog.bind_ret, Prog.pure_eq_ret, wp_deviceId, cond1, cond2, cond3, cond4, cond5, cond6, cond7, cond8,
    ↓reduceDIte, semSignalWord, semWaitWord, k0_part8_eq_skeleton, k0_part8_skel]
  rw [show commPre (F := F) m K 3 = iprop(env m K ∗ Ow 3 (oweIn [(false, 3), (true, 3)] (oweOut [(false, 2)])) ∗ posns m 3 []
      ∗ ((btk 3 (false, 3) ∗ btk 3 (true, 3) ∗ emp) ∗ etk (false, 2) ∗ emp)
      ∗ (crd 3 barC (outs 3).length ∗ rcr 3 false ∗ rcr 3 true ∗ emp) ∗ (room 3 false ∗ room 3 true) ∗ staged m 3) from rfl]
  iintro ⟨#He, Ho, Hp, ⟨⟨Bfalse, Btrue, _E1⟩, ⟨Tfalse2, _E2⟩⟩, ⟨Cb, Cfalse, Ctrue, _E3⟩, ⟨Rfalse, Rtrue⟩, Hst⟩ Hc
  iapply (announce m K 3 (false, 3) [(true, 3)] (oweOut [(false, 2)]) (by decide) rfl rfl) $$ He Ho Bfalse Rfalse
  iintro Ho
  iapply (announce_last m K 3 (true, 3) (oweOut [(false, 2)]) (by decide) rfl rfl) $$ He Ho Btrue Rtrue
  iintro Ho
  iapply (barrier m K 3 [] [(false, 2)] rfl (by decide) rfl rfl) $$ He Cb Ho Hp
  iintro ⟨Ho, Hp, Hl⟩
  ihave Hl' := (Entails.of_eq (show lands (F := F) [(false, 2)] = iprop(room 2 false ∗ emp) from rfl)) $$ Hl
  icases Hl' with ⟨Lfalse2, _E4⟩
  iapply (three (landed m K 3 false [barC] [(false, 2)] (by decide) (by decide) (by decide) (by decide) rfl rfl)) $$ He Cfalse Ho Hp
  iintro ⟨Ho, Hp, Hfalse⟩
  ihave Hs := (chunk_split m 3 false) $$ Hfalse
  icases Hs with ⟨Hfalse0, Hfalse1, Hfalse2⟩
  iapply (four (deliver m K 3 (false, 2) [] (by decide) 0 rfl rfl rfl rfl rfl rfl rfl)) $$ He Hfalse0 Lfalse2 Ho Tfalse2
  iintro ⟨Dfalse2, Ho⟩
  iapply (three (landed m K 3 true (rcv false [barC]) [] (by decide) (by decide) (by decide) (by decide) rfl rfl)) $$ He Ctrue Ho Hp
  iintro ⟨Ho, Hp, Htrue⟩
  iapply (three (returned m K 3 (false, 2) (rcv true (rcv false [barC])) [] (by decide) 0 rfl (by decide) (by decide) rfl rfl)) $$ He Dfalse2 Ho Hp
  iintro ⟨Ho, Hp, Hfalse0⟩
  ihave Hfalse := (chunk_join m 3 false) $$ [Hfalse0 Hfalse1 Hfalse2]
  · isplitl [Hfalse0]; · iexact Hfalse0
    isplitl [Hfalse1]; · iexact Hfalse1
    iexact Hfalse2
  iapply (finish m K 3 (snt false 0 (rcv true (rcv false [barC]))) (by decide) _) $$ [Ho Hp Hfalse Htrue Hst]
  · isplitr; · iexact He
    isplitl [Ho]; · iexact Ho
    isplitl [Hp]; · iexact Hp
    isplitl [Hfalse Htrue]
    · isplitl [Hfalse] <;> iassumption
    iexact Hst
  iexact Hc

theorem comm4 : Exchanges (F := F) m K 4 := by
  intro Q
  unfold exch
  rw [k0_part13_eq_skeleton]
  unfold k0_part13_skel
  simp (config := {decide := true}) only [Prog.lift, Prog.bind_op, Prog.bind_ret, Prog.pure_eq_ret, wp_deviceId, cond1, cond2, cond3, cond4, cond5, cond6, cond7, cond8,
    ↓reduceDIte, semSignalWord, semWaitWord, k0_part9_eq_skeleton, k0_part9_skel, k0_part10_eq_skeleton, k0_part10_skel]
  rw [show commPre (F := F) m K 4 = iprop(env m K ∗ Ow 4 (oweIn [(false, 4), (true, 4)] (oweOut [(false, 5), (false, 7)])) ∗ posns m 4 []
      ∗ ((btk 4 (false, 4) ∗ btk 4 (true, 4) ∗ emp) ∗ etk (false, 5) ∗ etk (false, 7) ∗ emp)
      ∗ (crd 4 barC (outs 4).length ∗ rcr 4 false ∗ rcr 4 true ∗ emp) ∗ (room 4 false ∗ room 4 true) ∗ staged m 4) from rfl]
  iintro ⟨#He, Ho, Hp, ⟨⟨Bfalse, Btrue, _E1⟩, ⟨Tfalse5, Tfalse7, _E2⟩⟩, ⟨Cb, Cfalse, Ctrue, _E3⟩, ⟨Rfalse, Rtrue⟩, Hst⟩ Hc
  iapply (announce m K 4 (false, 4) [(true, 4)] (oweOut [(false, 5), (false, 7)]) (by decide) rfl rfl) $$ He Ho Bfalse Rfalse
  iintro Ho
  iapply (announce_last m K 4 (true, 4) (oweOut [(false, 5), (false, 7)]) (by decide) rfl rfl) $$ He Ho Btrue Rtrue
  iintro Ho
  iapply (barrier m K 4 [] [(false, 5), (false, 7)] rfl (by decide) rfl rfl) $$ He Cb Ho Hp
  iintro ⟨Ho, Hp, Hl⟩
  ihave Hl' := (Entails.of_eq (show lands (F := F) [(false, 5), (false, 7)] = iprop(room 5 false ∗ room 7 false ∗ emp) from rfl)) $$ Hl
  icases Hl' with ⟨Lfalse5, Lfalse7, _E4⟩
  iapply (three (landed m K 4 false [barC] [(false, 5), (false, 7)] (by decide) (by decide) (by decide) (by decide) rfl rfl)) $$ He Cfalse Ho Hp
  iintro ⟨Ho, Hp, Hfalse⟩
  ihave Hs := (chunk_split m 4 false) $$ Hfalse
  icases Hs with ⟨Hfalse0, Hfalse1, Hfalse2⟩
  iapply (four (deliver m K 4 (false, 5) [(false, 7)] (by decide) 0 rfl rfl rfl rfl rfl rfl rfl)) $$ He Hfalse0 Lfalse5 Ho Tfalse5
  iintro ⟨Dfalse5, Ho⟩
  iapply (four (deliver m K 4 (false, 7) [] (by decide) 1 rfl rfl rfl rfl rfl rfl rfl)) $$ He Hfalse1 Lfalse7 Ho Tfalse7
  iintro ⟨Dfalse7, Ho⟩
  iapply (three (landed m K 4 true (rcv false [barC]) [] (by decide) (by decide) (by decide) (by decide) rfl rfl)) $$ He Ctrue Ho Hp
  iintro ⟨Ho, Hp, Htrue⟩
  iapply (three (returned m K 4 (false, 5) (rcv true (rcv false [barC])) [] (by decide) 0 rfl (by decide) (by decide) rfl rfl)) $$ He Dfalse5 Ho Hp
  iintro ⟨Ho, Hp, Hfalse0⟩
  iapply (three (returned m K 4 (false, 7) (snt false 0 (rcv true (rcv false [barC]))) [] (by decide) 1 rfl (by decide) (by decide) rfl rfl)) $$ He Dfalse7 Ho Hp
  iintro ⟨Ho, Hp, Hfalse1⟩
  ihave Hfalse := (chunk_join m 4 false) $$ [Hfalse0 Hfalse1 Hfalse2]
  · isplitl [Hfalse0]; · iexact Hfalse0
    isplitl [Hfalse1]; · iexact Hfalse1
    iexact Hfalse2
  iapply (finish m K 4 (snt false 1 (snt false 0 (rcv true (rcv false [barC])))) (by decide) _) $$ [Ho Hp Hfalse Htrue Hst]
  · isplitr; · iexact He
    isplitl [Ho]; · iexact Ho
    isplitl [Hp]; · iexact Hp
    isplitl [Hfalse Htrue]
    · isplitl [Hfalse] <;> iassumption
    iexact Hst
  iexact Hc

theorem comm5 : Exchanges (F := F) m K 5 := by
  intro Q
  unfold exch
  rw [k0_part13_eq_skeleton]
  unfold k0_part13_skel
  simp (config := {decide := true}) only [Prog.lift, Prog.bind_op, Prog.bind_ret, Prog.pure_eq_ret, wp_deviceId, cond1, cond2, cond3, cond4, cond5, cond6, cond7, cond8,
    ↓reduceDIte, semSignalWord, semWaitWord, k0_part11_eq_skeleton, k0_part11_skel, k0_part12_eq_skeleton, k0_part12_skel]
  rw [show commPre (F := F) m K 5 = iprop(env m K ∗ Ow 5 (oweIn [(true, 5), (false, 5)] (oweOut [(true, 4), (true, 6)])) ∗ posns m 5 []
      ∗ ((btk 5 (true, 5) ∗ btk 5 (false, 5) ∗ emp) ∗ etk (true, 4) ∗ etk (true, 6) ∗ emp)
      ∗ (crd 5 barC (outs 5).length ∗ rcr 5 true ∗ rcr 5 false ∗ emp) ∗ (room 5 false ∗ room 5 true) ∗ staged m 5) from rfl]
  iintro ⟨#He, Ho, Hp, ⟨⟨Btrue, Bfalse, _E1⟩, ⟨Ttrue4, Ttrue6, _E2⟩⟩, ⟨Cb, Ctrue, Cfalse, _E3⟩, ⟨Rfalse, Rtrue⟩, Hst⟩ Hc
  iapply (announce m K 5 (true, 5) [(false, 5)] (oweOut [(true, 4), (true, 6)]) (by decide) rfl rfl) $$ He Ho Btrue Rtrue
  iintro Ho
  iapply (announce_last m K 5 (false, 5) (oweOut [(true, 4), (true, 6)]) (by decide) rfl rfl) $$ He Ho Bfalse Rfalse
  iintro Ho
  iapply (barrier m K 5 [] [(true, 4), (true, 6)] rfl (by decide) rfl rfl) $$ He Cb Ho Hp
  iintro ⟨Ho, Hp, Hl⟩
  ihave Hl' := (Entails.of_eq (show lands (F := F) [(true, 4), (true, 6)] = iprop(room 4 true ∗ room 6 true ∗ emp) from rfl)) $$ Hl
  icases Hl' with ⟨Ltrue4, Ltrue6, _E4⟩
  iapply (three (landed m K 5 true [barC] [(true, 4), (true, 6)] (by decide) (by decide) (by decide) (by decide) rfl rfl)) $$ He Ctrue Ho Hp
  iintro ⟨Ho, Hp, Htrue⟩
  ihave Hs := (chunk_split m 5 true) $$ Htrue
  icases Hs with ⟨Htrue0, Htrue1, Htrue2⟩
  iapply (four (deliver m K 5 (true, 4) [(true, 6)] (by decide) 0 rfl rfl rfl rfl rfl rfl rfl)) $$ He Htrue0 Ltrue4 Ho Ttrue4
  iintro ⟨Dtrue4, Ho⟩
  iapply (four (deliver m K 5 (true, 6) [] (by decide) 1 rfl rfl rfl rfl rfl rfl rfl)) $$ He Htrue1 Ltrue6 Ho Ttrue6
  iintro ⟨Dtrue6, Ho⟩
  iapply (three (landed m K 5 false (rcv true [barC]) [] (by decide) (by decide) (by decide) (by decide) rfl rfl)) $$ He Cfalse Ho Hp
  iintro ⟨Ho, Hp, Hfalse⟩
  iapply (three (returned m K 5 (true, 4) (rcv false (rcv true [barC])) [] (by decide) 0 rfl (by decide) (by decide) rfl rfl)) $$ He Dtrue4 Ho Hp
  iintro ⟨Ho, Hp, Htrue0⟩
  iapply (three (returned m K 5 (true, 6) (snt true 0 (rcv false (rcv true [barC]))) [] (by decide) 1 rfl (by decide) (by decide) rfl rfl)) $$ He Dtrue6 Ho Hp
  iintro ⟨Ho, Hp, Htrue1⟩
  ihave Htrue := (chunk_join m 5 true) $$ [Htrue0 Htrue1 Htrue2]
  · isplitl [Htrue0]; · iexact Htrue0
    isplitl [Htrue1]; · iexact Htrue1
    iexact Htrue2
  iapply (finish m K 5 (snt true 1 (snt true 0 (rcv false (rcv true [barC])))) (by decide) _) $$ [Ho Hp Hfalse Htrue Hst]
  · isplitr; · iexact He
    isplitl [Ho]; · iexact Ho
    isplitl [Hp]; · iexact Hp
    isplitl [Hfalse Htrue]
    · isplitl [Hfalse] <;> iassumption
    iexact Hst
  iexact Hc

theorem comm6 : Exchanges (F := F) m K 6 := by
  intro Q
  unfold exch
  rw [k0_part13_eq_skeleton]
  unfold k0_part13_skel
  simp (config := {decide := true}) only [Prog.lift, Prog.bind_op, Prog.bind_ret, Prog.pure_eq_ret, wp_deviceId, cond1, cond2, cond3, cond4, cond5, cond6, cond7, cond8,
    ↓reduceDIte, semSignalWord, semWaitWord]
  rw [show commPre (F := F) m K 6 = iprop(env m K ∗ Ow 6 (oweIn [(false, 6), (true, 6)] (oweOut [])) ∗ posns m 6 []
      ∗ ((btk 6 (false, 6) ∗ btk 6 (true, 6) ∗ emp) ∗ emp)
      ∗ (crd 6 barC (outs 6).length ∗ rcr 6 false ∗ rcr 6 true ∗ emp) ∗ (room 6 false ∗ room 6 true) ∗ staged m 6) from rfl]
  iintro ⟨#He, Ho, Hp, ⟨⟨Bfalse, Btrue, _E1⟩, _E2⟩, ⟨Cb, Cfalse, Ctrue, _E3⟩, ⟨Rfalse, Rtrue⟩, Hst⟩ Hc
  iapply (announce m K 6 (false, 6) [(true, 6)] (oweOut []) (by decide) rfl rfl) $$ He Ho Bfalse Rfalse
  iintro Ho
  iapply (announce_last m K 6 (true, 6) (oweOut []) (by decide) rfl rfl) $$ He Ho Btrue Rtrue
  iintro Ho
  iapply (three (landed m K 6 false [] [] (by decide) (by decide) (by decide) (by decide) rfl rfl)) $$ He Cfalse Ho Hp
  iintro ⟨Ho, Hp, Hfalse⟩
  iapply (three (landed m K 6 true (rcv false []) [] (by decide) (by decide) (by decide) (by decide) rfl rfl)) $$ He Ctrue Ho Hp
  iintro ⟨Ho, Hp, Htrue⟩
  iapply (finish m K 6 (rcv true (rcv false [])) (by decide) _) $$ [Ho Hp Hfalse Htrue Hst]
  · isplitr; · iexact He
    isplitl [Ho]; · iexact Ho
    isplitl [Hp]; · iexact Hp
    isplitl [Hfalse Htrue]
    · isplitl [Hfalse] <;> iassumption
    iexact Hst
  iexact Hc

theorem comm7 : Exchanges (F := F) m K 7 := by
  intro Q
  unfold exch
  rw [k0_part13_eq_skeleton]
  unfold k0_part13_skel
  simp (config := {decide := true}) only [Prog.lift, Prog.bind_op, Prog.bind_ret, Prog.pure_eq_ret, wp_deviceId, cond1, cond2, cond3, cond4, cond5, cond6, cond7, cond8,
    ↓reduceDIte, semSignalWord, semWaitWord]
  rw [show commPre (F := F) m K 7 = iprop(env m K ∗ Ow 7 (oweIn [(true, 7), (false, 7)] (oweOut [])) ∗ posns m 7 []
      ∗ ((btk 7 (true, 7) ∗ btk 7 (false, 7) ∗ emp) ∗ emp)
      ∗ (crd 7 barC (outs 7).length ∗ rcr 7 true ∗ rcr 7 false ∗ emp) ∗ (room 7 false ∗ room 7 true) ∗ staged m 7) from rfl]
  iintro ⟨#He, Ho, Hp, ⟨⟨Btrue, Bfalse, _E1⟩, _E2⟩, ⟨Cb, Ctrue, Cfalse, _E3⟩, ⟨Rfalse, Rtrue⟩, Hst⟩ Hc
  iapply (announce m K 7 (true, 7) [(false, 7)] (oweOut []) (by decide) rfl rfl) $$ He Ho Btrue Rtrue
  iintro Ho
  iapply (announce_last m K 7 (false, 7) (oweOut []) (by decide) rfl rfl) $$ He Ho Bfalse Rfalse
  iintro Ho
  iapply (three (landed m K 7 false [] [] (by decide) (by decide) (by decide) (by decide) rfl rfl)) $$ He Cfalse Ho Hp
  iintro ⟨Ho, Hp, Hfalse⟩
  iapply (three (landed m K 7 true (rcv false []) [] (by decide) (by decide) (by decide) (by decide) rfl rfl)) $$ He Ctrue Ho Hp
  iintro ⟨Ho, Hp, Htrue⟩
  iapply (finish m K 7 (rcv true (rcv false [])) (by decide) _) $$ [Ho Hp Hfalse Htrue Hst]
  · isplitr; · iexact He
    isplitl [Ho]; · iexact Ho
    isplitl [Hp]; · iexact Hp
    isplitl [Hfalse Htrue]
    · isplitl [Hfalse] <;> iassumption
    iexact Hst
  iexact Hc

/-- The exchange, on every device. -/
theorem exchanges (c : Dev nD) : Exchanges (F := F) m K c := by
  fin_cases c
  exacts [comm0 m K, comm1 m K, comm2 m K, comm3 m K, comm4 m K, comm5 m K, comm6 m K, comm7 m K]

end Cert.KernelIdealProof

end
-- ==== Proof.KI.Calc.lean ====
/-
The arithmetic a device does after the exchange, as plain functions of the buffers it reads.
-/
module

public import proofs.«01_k».proof.Proof.KI.Comm
public import Idealize.ShloMosaic.Lib.Pipeline.Launch
public import Idealize.ShloMosaic.Lib.Pipeline.BigSepL
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rectangles read and written -/

abbrev rX (b : Fin 2) : Rect S2x256x512 := Rect.unit (s := S2x256x512) ![b, 0, 0] S1x256x512.size (by revert b; decide)
abbrev rKV (b : Fin 2) (h : Fin 4) : Rect S2x256x4x64 := Rect.unit (s := S2x256x4x64) ![b, 0, h, 0] S1x256x1x64.size (by revert b h; decide)
abbrev rKV' (b : Fin 2) (h : Fin 4) : Rect S2x128x4x64 := Rect.unit (s := S2x128x4x64) ![b, 0, h, 0] S1x128x1x64.size (by revert b h; decide)

/-! ## The arithmetic -/

/-- Where a query row may look at a key row. -/
def msk : IVec S256x384 1 := k0_pay7 k0_pay6 128#32

/-- The queries of one batch entry. -/
def queries (x : Vec F S1x256x512 .bf16) (wq : Vec F S512x256 .bf16) : FVec F S256x256 .bf16 :=
  truncf .bf16 (matmul dot_S256x512_S512x256_S256x256_1_0_0_1_n_n none (shapeCast S256x512 x shapeCasts_S1x256x512_S256x512 : FVec F S256x512 .bf16)
    (shapeCast S512x256 wq shapeCasts_S512x256_S512x256 : FVec F S512x256 .bf16) (constant S256x256 .f32 0x00000000#32)) bitsLt_bf16_f32

/-- One head's rows, those of the first device above those of the second. -/
def rows (a : Vec F S1x256x1x64 .bf16) (b : Vec F S1x128x1x64 .bf16) : FVec F S384x64 .bf16 :=
  concatenate S384x64 0 [⟨S256x64, (shapeCast S256x64 a shapeCasts_S1x256x1x64_S256x64 : FVec F S256x64 .bf16)⟩,
    ⟨S128x64, (shapeCast S128x64 b shapeCasts_S1x128x1x64_S128x64 : FVec F S128x64 .bf16)⟩] concatenates_S256x64_S128x64_S384x64_d0

/-- The unnormalised weights of a head. -/
def wts (q : FVec F S256x64 .bf16) (k : FVec F S384x64 .bf16) : FVec F S256x384 .f32 :=
  select msk (exp (mulf (matmul dot_S256x64_S384x64_S256x384_1_1_0_0_n_n none q k (constant S256x384 .f32 0x00000000#32))
    (broadcast S256x384 (Scalar.ofBits .f32 0x3E000000#32 : F .f32)))) (broadcast S256x384 (Scalar.ofBits .f32 0x00000000#32 : F .f32))

/-- A head's context rows: the weighted values over the weights' sum. -/
def head (q : FVec F S256x64 .bf16) (k v : FVec F S384x64 .bf16) : FVec F S256x64 .bf16 :=
  truncf .bf16 (divf (matmul dot_S256x384_S384x64_S256x64_1_0_0_1_n_n none (truncf .bf16 (wts q k) bitsLt_bf16_f32 : FVec F S256x384 .bf16) v (constant S256x64 .f32 0x00000000#32))
    (broadcastTo S256x64 (shapeCast S256x1 (multiReduction .add [1] S256 (wts q k) 0x00000000#32 reduces_S256x384_S256 (.inl rfl) rfl : FVec F S256 .f32) shapeCasts_S256_S256x1 : FVec F S256x1 .f32) broadcasts_S256x1_S256x64)) bitsLt_bf16_f32

/-- One batch entry: the heads side by side, through the output weights. -/
def entry (q : FVec F S256x256 .bf16) (k v : Fin 4 → FVec F S384x64 .bf16) (wo : Vec F S256x512 .bf16) : FVec F S1x256x512 .f32 :=
  shapeCast S1x256x512 (matmul dot_S256x256_S256x512_S256x512_1_0_0_1_n_n none
    (concatenate S256x256 1 [⟨S256x64, head (extractStridedSlice S256x64 ![0, 0] q slices_S256x256_o0_0_S256x64) (k 0) (v 0)⟩,
      ⟨S256x64, head (extractStridedSlice S256x64 ![0, 64] q slices_S256x256_o0_64_S256x64) (k 1) (v 1)⟩,
      ⟨S256x64, head (extractStridedSlice S256x64 ![0, 128] q slices_S256x256_o0_128_S256x64) (k 2) (v 2)⟩,
      ⟨S256x64, head (extractStridedSlice S256x64 ![0, 192] q slices_S256x256_o0_192_S256x64) (k 3) (v 3)⟩]
      concatenates_S256x64_S256x64_S256x64_S256x64_S256x256_d1 : FVec F S256x256 .bf16)
    (shapeCast S256x512 wo shapeCasts_S256x512_S256x512 : FVec F S256x512 .bf16) (constant S256x512 .f32 0x00000000#32)) shapeCasts_S256x512_S1x256x512

/-- What a device's read of its `x`, of its landed keys and of its landed values gives, at a batch entry. -/
def xRow (x : (cc0_stg0_0 : Ref sig .tc).ty.Contents (Elt F)) (b : Fin 2) : Vec F S1x256x512 .bf16 :=
  (Memref.whole cc0_stg0_0 : Memref sig .tc _ _ _).view.readAt (Elt F) (rX b).toLoadRect x
def kRows (b : Fin 2) (h : Fin 4) : FVec F S384x64 .bf16 :=
  rows ((Memref.whole cc0_scratch0 : Memref sig .tc _ _ _).view.readAt (Elt F) (rKV b h).toLoadRect (cont m (false, false)))
    ((Memref.whole cc0_scratch2 : Memref sig .tc _ _ _).view.readAt (Elt F) (rKV' b h).toLoadRect (cont m (true, false)))
def vRows (b : Fin 2) (h : Fin 4) : FVec F S384x64 .bf16 :=
  rows ((Memref.whole cc0_scratch1 : Memref sig .tc _ _ _).view.readAt (Elt F) (rKV b h).toLoadRect (cont m (false, true)))
    ((Memref.whole cc0_scratch3 : Memref sig .tc _ _ _).view.readAt (Elt F) (rKV' b h).toLoadRect (cont m (true, true)))

/-- A device's staged `x` and weights. -/
def xst (c : Dev nD) : (cc0_stg0_0 : Ref sig .tc).ty.Contents (Elt F) := (win0_0.blk (0 : Fin 1)).view.read (Elt F) (m ((c : Thread nD τ).loc main_arg0))
def wqst (c : Dev nD) : (cc0_stg1_0 : Ref sig .tc).ty.Contents (Elt F) := (win0_1.blk (0 : Fin 1)).view.read (Elt F) (m ((c : Thread nD τ).loc main_arg1))
def wost (c : Dev nD) : (cc0_stg4_0 : Ref sig .tc).ty.Contents (Elt F) := (win0_4.blk (0 : Fin 1)).view.read (Elt F) (m ((c : Thread nD τ).loc main_arg4))

/-- What a device stores for a batch entry. -/
def res (c : Dev nD) (b : Fin 2) : FVec F S1x256x512 .f32 :=
  entry (queries (xRow (xst m c) b) (wqst m c)) (kRows m b) (vRows m b) (wost m c)

abbrev oM : Memref sig .tc .vmem S2x256x512 .f32 := Memref.whole cc0_stg5_0

/-- The row and column of an output index, as an index of one entry. -/
def flat (i : S2x256x512.Idx) : S1x256x512.Idx := fun a => match a with
  | 0 => (0 : Fin 1)
  | 1 => i 1
  | 2 => i 2

/-- The output buffer at the end: both entries stored. -/
def outAt (c : Dev nD) : (cc0_stg5_0 : Ref sig .tc).ty.Contents (Elt F) := fun i => res m c (i 0) (flat i)

omit [FloatOps F] in
theorem emb_rX (b : Fin 2) (i : S2x256x512.Idx) (h : i 0 = b) : ((oM.access (rX b)) : View sig .tc _ _ _).emb (flat i) = i := by
  subst h
  funext a
  apply Fin.ext
  fin_cases a
  · show (i 0 : ℕ) + 1 * 0 = (i 0 : ℕ); omega
  · show 0 + 1 * (i 1 : ℕ) = (i 1 : ℕ); omega
  · show 0 + 1 * (i 2 : ℕ) = (i 2 : ℕ); omega

/-- The two stores cover the output. -/
theorem stores_eq (c : Dev nD) (f : (cc0_stg5_0 : Ref sig .tc).ty.Contents (Elt F)) :
    ((oM.access (rX 1)) : View sig .tc _ _ _).write (Elt F) (((oM.access (rX 0)) : View sig .tc _ _ _).write (Elt F) f (res m c 0) Finset.univ) (res m c 1) Finset.univ = outAt m c := by
  funext i
  unfold outAt
  have hi : i 0 = (0 : Fin 2) ∨ i 0 = (1 : Fin 2) := by
    have h : ∀ j : Fin 2, j = 0 ∨ j = 1 := by decide
    exact h (i 0)
  rcases hi with h | h
  · rw [View.write_of_not_mem]
    · have := View.write_emb_of_mem (v := oM.access (rX 0)) f (res m c 0) (M := Finset.univ) (Finset.mem_univ (flat i))
      rw [emb_rX 0 i h] at this
      rw [h]; exact this
    · intro hm
      obtain ⟨x, -, hx⟩ := Finset.mem_map.mp hm
      have h0 : ((((oM.access (rX 1)) : View sig .tc _ _ _).emb x) 0 : ℕ) = (i 0 : ℕ) := congrArg (fun j : S2x256x512.Idx => (j 0 : ℕ)) hx
      have h1 : ((((oM.access (rX 1)) : View sig .tc _ _ _).emb x) 0 : ℕ) = 1 + 1 * (x 0 : ℕ) := rfl
      have h2 : (i 0 : ℕ) = 0 := congrArg Fin.val h
      omega
  · have := View.write_emb_of_mem (v := oM.access (rX 1)) (((oM.access (rX 0)) : View sig .tc _ _ _).write (Elt F) f (res m c 0) Finset.univ) (res m c 1) (M := Finset.univ) (Finset.mem_univ (flat i))
    rw [emb_rX 1 i h] at this
    rw [h]; exact this

/-! ## The program after the exchange -/

/-- The buffers the arithmetic reads, at their contents. -/
def readBufs (c : Dev nD) : sProp 𝕄 :=
  iprop((((c : Thread nD τ).loc cc0_stg0_0) ↦{fullShare} xst m c) ∗ (((c : Thread nD τ).loc cc0_stg1_0) ↦{fullShare} wqst m c)
    ∗ (((c : Thread nD τ).loc cc0_stg4_0) ↦{fullShare} wost m c))

abbrev bodyW : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5

theorem out_of (c : Dev nD) (g : (cc0_stg5_0 : Ref sig .tc).ty.Contents (Elt F)) (hg : g = outAt m c) :
    ((((c : Thread nD τ).loc cc0_stg5_0) ↦{fullShare} (g : Buf (Elt F) ((c : Thread nD τ).loc cc0_stg5_0))) : sProp 𝕄) ⊢ (((c : Thread nD τ).loc cc0_stg5_0) ↦{fullShare} outAt m c) := by
  subst hg; exact Entails.rfl

omit [FloatOps F] in
theorem read_wq (f : (cc0_stg1_0 : Ref sig .tc).ty.Contents (Elt F)) : (Memref.whole cc0_stg1_0 : Memref sig .tc _ _ _).view.readAt (Elt F)
    (Rect.unit (s := S512x256) ![0, 0] S512x256.size inb_S512x256_S512x256_0_0).toLoadRect f = f :=
  Memref.readAt_unit_zero (Elt F) cc0_stg1_0 (funext fun a => by fin_cases a <;> rfl) _ f
omit [FloatOps F] in
theorem read_wo (f : (cc0_stg4_0 : Ref sig .tc).ty.Contents (Elt F)) : (Memref.whole cc0_stg4_0 : Memref sig .tc _ _ _).view.readAt (Elt F)
    (Rect.unit (s := S256x512) ![0, 0] S256x512.size inb_S256x512_S256x512_0_0).toLoadRect f = f :=
  Memref.readAt_unit_zero (Elt F) cc0_stg4_0 (funext fun a => by fin_cases a <;> rfl) _ f

variable (K : Dev nD × Cl → ℕ)

set_option maxHeartbeats 800000 in
/-- The whole body on a device: the exchange, then the arithmetic into the output buffer. -/
theorem body_wp (c : Dev nD) (Q : PUnit → sProp 𝕄) :
    iprop(commPre (F := F) m K c ∗ readBufs m c ∗ ∃ f : (cc0_stg5_0 : Ref sig .tc).ty.Contents (Elt F), ((c : Thread nD τ).loc cc0_stg5_0) ↦{fullShare} (f : Buf (Elt F) ((c : Thread nD τ).loc cc0_stg5_0)))
      ⊢ iprop(((commPost m c ∗ readBufs m c ∗ (((c : Thread nD τ).loc cc0_stg5_0) ↦{fullShare} outAt m c)) -∗ Q ⟨⟩)
        -∗ wp frame (wpE (defs₀ (F := F)) 𝒱₀ (c : Thread nD τ) none) Set.univ (bodyW (F := F)) Q) := by
  unfold bodyW
  rw [cc0_body_eq_skeleton]
  unfold cc0_body_skel
  rw [wp_bind]
  unfold readBufs
  iintro ⟨Hpre, ⟨Hx, Hq, Hw⟩, %f, Ho⟩ Hc
  iapply (exchanges m K c _) $$ Hpre
  iintro Hpost
  dsimp only
  simp only [Prog.lift, Prog.bind_op, Prog.bind_ret, Prog.pure_eq_ret, k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel]
  unfold commPost chunk bpts
  icases Hpost with ⟨HO, Hz, ⟨⟨H0, H1⟩, H2, H3⟩, Hst⟩
  iapply (wp_load 𝒱₀ (c : Thread nD τ) none Set.univ (m := Memref.whole cc0_stg1_0) (Finset.subset_univ _)) $$ Hq; iintro Hq
  rw [read_wq]
  iapply (wp_load 𝒱₀ (c : Thread nD τ) none Set.univ (m := Memref.whole cc0_stg4_0) (Finset.subset_univ _)) $$ Hw; iintro Hw
  rw [read_wo]
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_scratch0) (Finset.subset_univ _)) $$ H0; iintro H0
  iapply (wp_load 𝒱₀ (c : Thread nD τ) none Set.univ (m := Memref.whole cc0_scratch2) (Finset.subset_univ _)) $$ H2; iintro H2
  iapply (wp_load 𝒱₀ (c : Thread nD τ) none Set.univ (m := Memref.whole cc0_scratch1) (Finset.subset_univ _)) $$ H1; iintro H1
  iapply (wp_load 𝒱₀ (c : Thread nD τ) none Set.univ (m := Memref.whole cc0_scratch3) (Finset.subset_univ _)) $$ H3; iintro H3
  iapply (wp_load 𝒱₀ (c : Thread nD τ) none Set.univ (m := Memref.whole cc0_scratch0) (Finset.subset_univ _)) $$ H0; iintro H0
  iapply (wp_load 𝒱₀ (c : Thread nD τ) none Set.univ (m := Memref.whole cc0_scratch2) (Finset.subset_univ _)) $$ H2; iintro H2
  iapply (wp_load 𝒱₀ (c : Thread nD τ) none Set.univ (m := Memref.whole cc0_scratch1) (Finset.subset_univ _)) $$ H1; iintro H1
  iapply (wp_load 𝒱₀ (c : Thread nD τ) none Set.univ (m := Memref.whole cc0_scratch3) (Finset.subset_univ _)) $$ H3; iintro H3
  iapply (wp_load 𝒱₀ (c : Thread nD τ) none Set.univ (m := Memref.whole cc0_scratch0) (Finset.subset_univ _)) $$ H0; iintro H0
  iapply (wp_load 𝒱₀ (c : Thread nD τ) none Set.univ (m := Memref.whole cc0_scratch2) (Finset.subset_univ _)) $$ H2; iintro H2
  iapply (wp_load 𝒱₀ (c : Thread nD τ) none Set.univ (m := Memref.whole cc0_scratch1) (Finset.subset_univ _)) $$ H1; iintro H1
  iapply (wp_load 𝒱₀ (c : Thread nD τ) none Set.univ (m := Memref.whole cc0_scratch3) (Finset.subset_univ _)) $$ H3; iintro H3
  iapply (wp_load 𝒱₀ (c : Thread nD τ) none Set.univ (m := Memref.whole cc0_scratch0) (Finset.subset_univ _)) $$ H0; iintro H0
  iapply (wp_load 𝒱₀ (c : Thread nD τ) none Set.univ (m := Memref.whole cc0_scratch2) (Finset.subset_univ _)) $$ H2; iintro H2
  iapply (wp_load 𝒱₀ (c : Thread nD τ) none Set.univ (m := Memref.whole cc0_scratch1) (Finset.subset_univ _)) $$ H1; iintro H1
  iapply (wp_load 𝒱₀ (c : Thread nD τ) none Set.univ (m := Memref.whole cc0_scratch3) (Finset.subset_univ _)) $$ H3; iintro H3
  iapply (wp_load 𝒱₀ (c : Thread nD τ) none Set.univ (m := Memref.whole cc0_stg5_0) (Finset.subset_univ _)) $$ Ho; iintro Ho
  iapply (wp_store 𝒱₀ (c : Thread nD τ) none Set.univ (m := oM) (r := rX 0) (Mk := Finset.univ) (Finset.subset_univ _)) $$ Ho; iintro Ho
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_scratch0) (Finset.subset_univ _)) $$ H0; iintro H0
  iapply (wp_load 𝒱₀ (c : Thread nD τ) none Set.univ (m := Memref.whole cc0_scratch2) (Finset.subset_univ _)) $$ H2; iintro H2
  iapply (wp_load 𝒱₀ (c : Thread nD τ) none Set.univ (m := Memref.whole cc0_scratch1) (Finset.subset_univ _)) $$ H1; iintro H1
  iapply (wp_load 𝒱₀ (c : Thread nD τ) none Set.univ (m := Memref.whole cc0_scratch3) (Finset.subset_univ _)) $$ H3; iintro H3
  iapply (wp_load 𝒱₀ (c : Thread nD τ) none Set.univ (m := Memref.whole cc0_scratch0) (Finset.subset_univ _)) $$ H0; iintro H0
  iapply (wp_load 𝒱₀ (c : Thread nD τ) none Set.univ (m := Memref.whole cc0_scratch2) (Finset.subset_univ _)) $$ H2; iintro H2
  iapply (wp_load 𝒱₀ (c : Thread nD τ) none Set.univ (m := Memref.whole cc0_scratch1) (Finset.subset_univ _)) $$ H1; iintro H1
  iapply (wp_load 𝒱₀ (c : Thread nD τ) none Set.univ (m := Memref.whole cc0_scratch3) (Finset.subset_univ _)) $$ H3; iintro H3
  iapply (wp_load 𝒱₀ (c : Thread nD τ) none Set.univ (m := Memref.whole cc0_scratch0) (Finset.subset_univ _)) $$ H0; iintro H0
  iapply (wp_load 𝒱₀ (c : Thread nD τ) none Set.univ (m := Memref.whole cc0_scratch2) (Finset.subset_univ _)) $$ H2; iintro H2
  iapply (wp_load 𝒱₀ (c : Thread nD τ) none Set.univ (m := Memref.whole cc0_scratch1) (Finset.subset_univ _)) $$ H1; iintro H1
  iapply (wp_load 𝒱₀ (c : Thread nD τ) none Set.univ (m := Memref.whole cc0_scratch3) (Finset.subset_univ _)) $$ H3; iintro H3
  iapply (wp_load 𝒱₀ (c : Thread nD τ) none Set.univ (m := Memref.whole cc0_scratch0) (Finset.subset_univ _)) $$ H0; iintro H0
  iapply (wp_load 𝒱₀ (c : Thread nD τ) none Set.univ (m := Memref.whole cc0_scratch2) (Finset.subset_univ _)) $$ H2; iintro H2
  iapply (wp_load 𝒱₀ (c : Thread nD τ) none Set.univ (m := Memref.whole cc0_scratch1) (Finset.subset_univ _)) $$ H1; iintro H1
  iapply (wp_load 𝒱₀ (c : Thread nD τ) none Set.univ (m := Memref.whole cc0_scratch3) (Finset.subset_univ _)) $$ H3; iintro H3
  iapply (wp_load 𝒱₀ (c : Thread nD τ) none Set.univ (m := Memref.whole cc0_stg5_0) (Finset.subset_univ _)) $$ Ho; iintro Ho
  iapply (wp_store 𝒱₀ (c : Thread nD τ) none Set.univ (m := oM) (r := rX 1) (Mk := Finset.univ) (Finset.subset_univ _)) $$ Ho; iintro Ho
  rw [wp_ret]
  imodintro
  iapply Hc
  isplitl [HO Hz H0 H1 H2 H3 Hst]
  · isplitl [HO]; · iexact HO
    isplitl [Hz]; · iexact Hz
    isplitr [Hst]
    · isplitl [H0 H1]; · isplitl [H0] <;> iassumption
      isplitl [H2] <;> iassumption
    iexact Hst
  isplitl [Hx Hq Hw]
  · isplitl [Hx]; · iexact Hx
    isplitl [Hq] <;> iassumption
  istop
  exact out_of m c _ (stores_eq m c f)

end Cert.KernelIdealProof

end
-- ==== Proof.KI.Deal.lean ====
/-
The launch: the exchange's ghost state dealt to the devices, and the run of the whole program.
-/
module

public import proofs.«01_k».proof.Proof.KI.Calc
public import Idealize.ShloMosaic.Lib.Pipeline.Launch
public import Idealize.ShloMosaic.Lib.Pipeline.BigSepL
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists of resources -/

/-- A resource at every entry of a list. -/
def lsep {I : Type} (Φ : I → sProp 𝕄) : List I → sProp 𝕄
  | [] => iprop(emp)
  | i :: l => iprop(Φ i ∗ lsep Φ l)

theorem pick {I : Type} [DecidableEq I] (Φ : I → sProp 𝕄) (l : List I) (hl : l.Nodup) (S : Finset I) (h : ∀ i ∈ l, i ∈ S) : bigSep S Φ ⊢ lsep (F := F) Φ l := by
  induction l generalizing S with
  | nil => iintro -; unfold lsep; iempintro
  | cons i l ih =>
    have h1 : bigSep S Φ ⊢ iprop(Φ i ∗ bigSep (S.erase i) Φ) := Entails.of_eq (BI.bigSep_erase (h i List.mem_cons_self))
    refine h1.trans (sep_mono_right (ih (List.nodup_cons.mp hl).2 _ fun j hj => Finset.mem_erase.mpr ⟨?_, h j (List.mem_cons_of_mem _ hj)⟩))
    rintro rfl; exact (List.nodup_cons.mp hl).1 hj

theorem lsep_append {I : Type} (Φ : I → sProp 𝕄) (l l' : List I) : lsep (F := F) Φ (l ++ l') ⊢ iprop(lsep Φ l ∗ lsep Φ l') := by
  induction l with
  | nil => iintro H; isplitr; · unfold lsep; iempintro
           iexact H
  | cons i l ih =>
    show iprop(Φ i ∗ lsep Φ (l ++ l')) ⊢ iprop((Φ i ∗ lsep Φ l) ∗ lsep Φ l')
    iintro ⟨H1, H⟩
    ihave H' := ih $$ H
    icases H' with ⟨H2, H3⟩
    isplitl [H1 H2]; · isplitl [H1] <;> iassumption
    iexact H3

/-- A device's tokens, announcement by announcement and delivery by delivery. -/
theorem toks_split (c : Dev nD) : bigSep (paid c).toFinset (tok (F := F)) ⊢ iprop(btks c (ins c) ∗ etks (outs c)) := by
  have h1 (l : List Ed) : lsep (tok (F := F)) (l.map fun e => (src e.1 e.2, barC, c)) ⊢ btks c l := by
    induction l with
    | nil => exact Entails.rfl
    | cons e l ih => exact sep_mono_right ih
  have h2 (l : List Ed) : lsep (tok (F := F)) (l.flatMap etok) ⊢ etks l := by
    induction l with
    | nil => exact Entails.rfl
    | cons e l ih =>
      have h : lsep (tok (F := F)) ((e :: l).flatMap etok) ⊢ iprop(lsep tok (etok e) ∗ lsep tok (l.flatMap etok)) := lsep_append tok (etok e) (l.flatMap etok)
      refine h.trans (BIClass.sep_mono ?_ ih)
      unfold etok etk lsep lsep lsep lsep lsep
      iintro ⟨H1, H2, H3, H4, -⟩
      isplitl [H1 H2]; · isplitl [H1] <;> iassumption
      isplitl [H3] <;> iassumption
  exact ((pick tok (paid c) (paid_nodup c) _ fun i hi => List.mem_toFinset.mpr hi).trans (lsep_append tok _ _)).trans (BIClass.sep_mono (h1 _) (h2 _))

/-! ## The launch credit -/

theorem kcell_injective : Function.Injective (kcell : Dev nD × Cl → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

/-- How many deliveries of a list add to a cell; how many announcements. -/
def cntOut (c : Dev nD) (k : Cl) : List Ed → ℕ
  | [] => 0
  | e :: l => cntOut c k l + (if c = e.2 ∧ k = recvC (e.1, true) then 1 else 0) + (if c = e.2 ∧ k = recvC (e.1, false) then 1 else 0)
def cntIn (c : Dev nD) (k : Cl) : List Ed → ℕ
  | [] => 0
  | e :: l => cntIn c k l + (if c = src e.1 e.2 ∧ k = barC then 1 else 0)

theorem tally_cell (c c' : Dev nD) (k k' : Cl) (n : ℕ) (hn : n = amt k') :
    (tallyAt (kcell (c', k')) () n : CellTallies nD τ sig Unit) (kcell (c, k)) () = (if c = c' ∧ k = k' then 1 else 0) * amt k := by
  rw [tallyAt_apply]
  by_cases h : c = c' ∧ k = k'
  · obtain ⟨rfl, rfl⟩ := h
    rw [if_pos ⟨rfl, rfl⟩, if_pos ⟨rfl, rfl⟩, hn, Nat.one_mul]
  · rw [if_neg h, if_neg fun h' => h ?_, Nat.zero_mul]
    have := kcell_injective h'.1
    exact ⟨congrArg Prod.fst this, congrArg Prod.snd this⟩

theorem oweOut_cell (c : Dev nD) (k : Cl) (l : List Ed) : oweOut l (kcell (c, k)) () = cntOut c k l * amt k := by
  induction l with
  | nil => exact (Nat.zero_mul _).symm
  | cons e l ih =>
    show (oweOut l + tallyAt (kcell (e.2, recvC (e.1, true))) () (N (e.1, true)) + tallyAt (kcell (e.2, recvC (e.1, false))) () (N (e.1, false))) (kcell (c, k)) () = _
    rw [Pi.add_apply, Finsupp.add_apply, Pi.add_apply, Finsupp.add_apply, ih, tally_cell c e.2 k (recvC (e.1, true)) (N (e.1, true)) rfl, tally_cell c e.2 k (recvC (e.1, false)) (N (e.1, false)) rfl, ← Nat.add_mul, ← Nat.add_mul]
    rfl
theorem oweIn_cell (c : Dev nD) (k : Cl) (l : List Ed) (O : CellTallies nD τ sig Unit) : oweIn l O (kcell (c, k)) () = O (kcell (c, k)) () + cntIn c k l * amt k := by
  induction l with
  | nil => exact (congrArg (O (kcell (c, k)) () + ·) (Nat.zero_mul (amt k)).symm)
  | cons e l ih =>
    show (oweIn l O + tallyAt (kcell (src e.1 e.2, barC)) () 1) (kcell (c, k)) () = _
    rw [Pi.add_apply, Finsupp.add_apply, ih, tally_cell c (src e.1 e.2) k barC 1 rfl, Nat.add_assoc, ← Nat.add_mul]
    rfl

/-- How many times a cell is added to in all. -/
def cnt (c : Dev nD) (k : Cl) : ℕ := ∑ d : Dev nD, (cntOut c k (outs d) + cntIn c k (ins d))
theorem cnt_bar : ∀ c : Dev nD, cnt c barC = (outs c).length := by decide +kernel
theorem cnt_recv : ∀ (c : Dev nD) (e : Ed), e ∈ ins c → ∀ v : Bool, cnt c (recvC (e.1, v)) = 1 := by decide +kernel

theorem launch_cell (c : Dev nD) (k : Cl) :
    tallyOn (kcell (c, k)) (launchCredit (Pipeline.owing O₀) 0 (kcell (c, k))) = (tallyAt (kcell (c, k)) () (cnt c k * amt k) : CellTallies nD τ sig Unit) := by
  unfold tallyAt; refine congrArg _ (Finsupp.ext fun u => ?_); cases u
  rw [Pipeline.launchCredit_owing, Finsupp.single_eq_same]
  unfold cnt
  rw [Finset.sum_mul]
  refine Finset.sum_congr rfl fun d _ => ?_
  unfold O₀
  rw [oweIn_cell, oweOut_cell, ← Nat.add_mul]

/-- The cells a device waits at with credit from the launch. -/
def credCells (c : Dev nD) : List Cl := barC :: (ins c).flatMap fun e => [recvC (e.1, false), recvC (e.1, true)]
theorem credCells_nodup : ∀ c : Dev nD, (credCells c).Nodup := by decide

theorem creds (c : Dev nD) : (Pipeline.launchCred O₀ c : sProp 𝕄) ⊢ iprop(crd c barC (outs c).length ∗ rcrs c (ins c)) := by
  unfold Pipeline.launchCred
  refine (pick _ ((credCells c).map csem) ((credCells_nodup c).map csem_injective) _ fun i _ => Finset.mem_univ i).trans ?_
  have key (k : Cl) (n : ℕ) (hn : cnt c k * amt k = n) :
      (cred (tallyOn ((c.tc : Thread nD τ), csem k) (launchCredit (Pipeline.owing O₀) 0 ((c.tc : Thread nD τ), csem k))) : sProp 𝕄) ⊢ crd c k n := by
    subst hn; unfold crd; exact Entails.of_eq (congrArg _ (launch_cell c k))
  have hr (l : List Ed) (h : ∀ e ∈ l, e ∈ ins c) :
      lsep (fun sm : SemLoc sig => (cred (tallyOn ((c.tc : Thread nD τ), sm) (launchCredit (Pipeline.owing O₀) 0 ((c.tc : Thread nD τ), sm))) : sProp 𝕄))
        ((l.flatMap fun e => [recvC (e.1, false), recvC (e.1, true)]).map csem) ⊢ rcrs c l := by
    induction l with
    | nil => exact Entails.rfl
    | cons e l ih =>
      have hn (v : Bool) : cnt c (recvC (e.1, v)) * amt (recvC (e.1, v)) = N (e.1, v) := by
        rw [cnt_recv c e (h e List.mem_cons_self) v, Nat.one_mul]; rfl
      refine (BIClass.sep_mono (key _ _ (hn false)) (BIClass.sep_mono (key _ _ (hn true)) (ih fun e' he' => h e' (List.mem_cons_of_mem _ he')))).trans ?_
      show _ ⊢ iprop((crd c (recvC (e.1, false)) (N (e.1, false)) ∗ crd c (recvC (e.1, true)) (N (e.1, true))) ∗ rcrs c l)
      iintro ⟨H1, H2, H3⟩
      isplitl [H1 H2]; · isplitl [H1] <;> iassumption
      iexact H3
  exact BIClass.sep_mono (key barC _ (by rw [cnt_bar]; exact Nat.mul_one _)) (hr _ fun e he => he)

end Cert.KernelIdealProof

end
-- ==== Proof.KI.Launch.lean ====
/-
The launch: what each device starts with, the step that sets the exchange up, and the run of the
whole program with the contents every array ends with.
-/
module

public import proofs.«01_k».proof.Proof.KI.Deal
public import Idealize.ShloMosaic.Lib.Pipeline.CollectiveSegs
public import Idealize.ShloMosaic.Lib.Pipeline.Launch
public import Idealize.ShloMosaic.Lib.Pipeline.BigSepL
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What a device starts from: its share of the exchange's ghost state, its credits and the levels. -/
def start (c : Dev nD) : sProp 𝕄 :=
  iprop((∃ K, records m K ∗ posns m c [] ∗ (btks c (ins c) ∗ etks (outs c)))
    ∗ (crd c barC (outs c).length ∗ rcrs c (ins c)) ∗ levAts L lv)
def Φ₀ (c : Dev nD) : sProp 𝕄 := iprop(start m c ∗ room c false ∗ room c true)
def Φ₁ (c : Dev nD) : sProp 𝕄 := iprop((bigSep Finset.univ fun k : Cl => semVal (kcell (c, k)) 0) ∗ room c false ∗ room c true)

/-- The pipeline's proof data: each window's contents after the body, and what is held around it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
    | ⟨1, _⟩ => wqst m c
    | ⟨2, _⟩ => kst m c
    | ⟨3, _⟩ => vst m c
    | ⟨4, _⟩ => wost m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- One staging buffer at given contents. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_intro (c : Dev nD) (b : Ref sig .tc) (f : Buf (Elt F) ((c : Thread nD τ).loc b)) :
    ((((c : Thread nD τ).loc b) ↦{fullShare} f) : sProp 𝕄) ⊢ stg c b f := by
  unfold stg; iintro H; iexists f; isplitr; · ipureintro; rfl
  iexact H
theorem stg_elim (c : Dev nD) (b : Ref sig .tc) (X : b.ty.Contents (Elt F)) :
    stg c b X ⊢ (((c : Thread nD τ).loc b) ↦{fullShare} (X : Buf (Elt F) ((c : Thread nD τ).loc b)) : sProp 𝕄) := by
  unfold stg; iintro ⟨%f, %h, H⟩; subst h; iexact H

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

abbrev t₀ : Fin cfg0.N := t0_0

theorem fetch_in (w : Fin cfg0.W) (hw : w ≠ (5 : Fin 6)) (t : Fin cfg0.N) : (cfg0.win w).fetch t = true := by
  rw [show t = t₀ from fin_N0 t]; revert w; decide

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))
def bodyPost (c : Dev nD) : sProp 𝕄 :=
  iprop(Φ₁ c ∗ (dats m ρ 0 c).owesAt () t₀.succ
    ∗ stg c cc0_stg0_0 (xst m c) ∗ stg c cc0_stg1_0 (wqst m c) ∗ stg c cc0_stg2_0 (kst m c) ∗ stg c cc0_stg3_0 (vst m c)
    ∗ stg c cc0_stg4_0 (wost m c) ∗ stg c cc0_stg5_0 (outAt m c))

theorem before_x (c : Dev nD) (d) : (dats m ρ 0 c).before (0 : Fin 6) t₀ d = xst m c := by unfold Dat.before; rw [if_pos (fetch_in (0 : Fin 6) (by decide) t₀)]; rfl
theorem before_wq (c : Dev nD) (d) : (dats m ρ 0 c).before (1 : Fin 6) t₀ d = wqst m c := by unfold Dat.before; rw [if_pos (fetch_in (1 : Fin 6) (by decide) t₀)]; rfl
theorem before_k (c : Dev nD) (d) : (dats m ρ 0 c).before (2 : Fin 6) t₀ d = kst m c := by unfold Dat.before; rw [if_pos (fetch_in (2 : Fin 6) (by decide) t₀)]; rfl
theorem before_v (c : Dev nD) (d) : (dats m ρ 0 c).before (3 : Fin 6) t₀ d = vst m c := by unfold Dat.before; rw [if_pos (fetch_in (3 : Fin 6) (by decide) t₀)]; rfl
theorem before_wo (c : Dev nD) (d) : (dats m ρ 0 c).before (4 : Fin 6) t₀ d = wost m c := by unfold Dat.before; rw [if_pos (fetch_in (4 : Fin 6) (by decide) t₀)]; rfl

theorem owes_in (c : Dev nD) : (dats m ρ 0 c).owesAt () t₀.castSucc ⊢ Ow (F := F) c (O₀ c) := by
  unfold Dat.owesAt Pipeline.owesWithin Ow
  rw [show (dats m ρ 0 c).owed t₀.castSucc = O₀ c from rfl]
  iintro ⟨%W, -, H⟩; iexists W; iexact H
theorem owes_out (c : Dev nD) : Ow (F := F) c 0 ⊢ (dats m ρ 0 c).owesAt () t₀.succ := by
  unfold Dat.owesAt Pipeline.owesWithin Ow
  rw [show (dats m ρ 0 c).owed t₀.succ = 0 from rfl]
  iintro ⟨%W, H⟩; iexists W; isplitr; · ipureintro; exact fun _ _ => Or.inl trivial
  iexact H

omit [FloatOps F] in
theorem room_of (c : Dev nD) (ch : Bool) : chunk (F := F) m c ch fullShare ⊢ room c ch := by
  unfold chunk room bany
  iintro ⟨H1, H2⟩
  isplitl [H1]
  · iexists _; iexact H1
  · iexists _; iexact H2

theorem body_obligation (c : Dev nD) : BodyObligation (dats (F := F) m ρ 0 c) (defs₀ (F := F)) 𝒱₀ () Set.univ := fun t => by
  rw [show t = t₀ from fin_N0 t]
  rw [bigSep_W, bigSep_W]
  simp only [owns_whole_eq]
  show bodyPre m ρ c ⊢ wp frame (wpE (defs₀ (F := F)) 𝒱₀ c none) Set.univ (bodyW (F := F)) (fun _ => bodyPost m ρ c)
  unfold bodyPre
  simp only [before_x, before_wq, before_k, before_v, before_wo]
  unfold Φ₀ start
  iintro ⟨⟨⟨⟨%K, Hrec, Hpos, Htok⟩, Hcr, Hlev⟩, Hroom⟩, Ho, ⟨%d0, Hx⟩, ⟨%d1, Hq⟩, ⟨%d2, Hk⟩, ⟨%d3, Hv⟩, ⟨%d4, Hw⟩, ⟨%d5, Hout⟩⟩
  ihave HO := (owes_in m ρ c) $$ Ho
  ihave Hx := (stg_elim c cc0_stg0_0 _) $$ Hx
  ihave Hq := (stg_elim c cc0_stg1_0 _) $$ Hq
  ihave Hk := (stg_elim c cc0_stg2_0 _) $$ Hk
  ihave Hv := (stg_elim c cc0_stg3_0 _) $$ Hv
  ihave Hw := (stg_elim c cc0_stg4_0 _) $$ Hw
  ihave Hout := (stg_elim c cc0_stg5_0 _) $$ Hout
  iapply (body_wp m K c fun _ => bodyPost m ρ c) $$ [Hrec Hpos Htok Hcr Hlev Hroom HO Hx Hq Hk Hv Hw Hout]
  · unfold commPre env readBufs staged
    isplitl [Hrec Hpos Htok Hcr Hlev Hroom HO Hk Hv]
    · isplitl [Hrec Hlev]; · isplitl [Hrec] <;> iassumption
      isplitl [HO]; · iexact HO
      isplitl [Hpos]; · iexact Hpos
      isplitl [Htok]; · iexact Htok
      isplitl [Hcr]; · iexact Hcr
      isplitl [Hroom]; · iexact Hroom
      isplitl [Hk] <;> iassumption
    isplitl [Hx Hq Hw]
    · isplitl [Hx]; · iexact Hx
      isplitl [Hq] <;> iassumption
    iexists _; iexact Hout
  · unfold commPost readBufs staged bodyPost Φ₁
    iintro ⟨⟨HO, Hz, ⟨Hc0, Hc1⟩, Hk, Hv⟩, ⟨Hx, Hq, Hw⟩, Hout⟩
    ihave Hr0 := (room_of m c false) $$ Hc0
    ihave Hr1 := (room_of m c true) $$ Hc1
    isplitl [Hz Hr0 Hr1]
    · isplitl [Hz]; · iexact Hz
      isplitl [Hr0] <;> iassumption
    isplitl [HO]; · iapply (owes_out m ρ c); iexact HO
    isplitl [Hx]; · iapply (stg_intro c cc0_stg0_0 _); iexact Hx
    isplitl [Hq]; · iapply (stg_intro c cc0_stg1_0 _); iexact Hq
    isplitl [Hk]; · iapply (stg_intro c cc0_stg2_0 _); iexact Hk
    isplitl [Hv]; · iapply (stg_intro c cc0_stg3_0 _); iexact Hv
    isplitl [Hw]; · iapply (stg_intro c cc0_stg4_0 _); iexact Hw
    iapply (stg_intro c cc0_stg5_0 _); iexact Hout

/-! ## The set-up -/

/-- The kernel's own semaphores: the sends' and the receives'. -/
def osem : Fin 16 → SemLoc sig := fun i => .dma ⟨6 + i.val, by have := i.isLt; exact (show 6 + i.val < 22 by omega)⟩
theorem ownSemFacts : Pipeline.OwnSemFacts cfg0.spec osem := by decide
theorem share_eq (c : Dev nD) (w : Fin cfg0.W) : (dats m ρ 0 c).share w = fullShare := by unfold Dat.share; split <;> rfl

def xCells : Finset (GSem nD τ sig) := Finset.univ.map ⟨kcell, kcell_injective⟩
theorem tokOf_injective : Function.Injective fun x : Duty => ((kcell (x.1, x.2.1), 0, x.2.2) : GSem nD τ sig × ℕ × Dev nD) := by
  rintro ⟨c, k, d⟩ ⟨c', k', d'⟩ h
  have h1 := kcell_injective (congrArg Prod.fst h)
  have h2 : d = d' := congrArg (fun x : GSem nD τ sig × ℕ × Dev nD => x.2.2) h
  have h3 : c = c' := congrArg Prod.fst h1
  have h4 : k = k' := congrArg Prod.snd h1
  rw [h2, h3, h4]
def xToks : Finset (GSem nD τ sig × ℕ × Dev nD) := (Finset.univ.biUnion fun c : Dev nD => (paid c).toFinset).map ⟨_, tokOf_injective⟩

def u₀ : UU :=
  (initOf (Pipeline.cells cfgs cellOf_inj) (Pipeline.launchToks cfgs cellOf_inj), initOf xCells xToks)

def toks (c : Dev nD) : sProp 𝕄 := bigSep (paid c).toFinset (tok (F := F))
/-- What the launch element deals a device. -/
def G (c : Dev nD) : sProp 𝕄 :=
  iprop((bigSep Finset.univ fun k : Cl => roundState ER (Rd m) (kcell (c, k)) 0)
    ∗ (bigSep Finset.univ fun k : Cl => iprop(atPos ER (kcell (c, k)) 0 ∅ 0 ∗ reached ER (kcell (c, k)) 0)) ∗ toks c)
/-- What the set-up makes of it. -/
def G' (c : Dev nD) : sProp 𝕄 := iprop(∃ K, records m K ∗ posns m c [] ∗ (btks c (ins c) ∗ etks (outs c)))

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Cl => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks toks
    rw [bigSep_map, bigSep_biUnion_eq]
    · rfl
    · intro c _ c' _ h; exact paid_disj c c' h
  iintro HX
  imod (Rounds.fund ER (Rd m) xCells xToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's cells in the order of its semaphores: the barrier's, the sends', the receives'. -/
def cellList : List Cl :=
  [none, some ((false, false), some 0), some ((false, false), some 1), some ((false, false), some 2), some ((false, true), some 0), some ((false, true), some 1), some ((false, true), some 2),
    some ((true, false), some 0), some ((true, false), some 1), some ((true, false), some 2), some ((true, true), some 0), some ((true, true), some 1), some ((true, true), some 2),
    some ((false, false), none), some ((false, true), none), some ((true, false), none), some ((true, true), none)]

omit [FloatOps F] in
theorem ownSems0_eq (c : Dev nD) : (Pipeline.ownSems0 (Ix := Unit) (Name := ℕ) (U := UU) (Lvl := ℕ) (Val := Elt F) (τ := τ) osem c : sProp 𝕄)
    = bigSepL cellList.tail fun k => semVal (kcell (c, k)) 0 := by
  rw [Pipeline.ownSems0_eq_of_list c osem [0, 1, 2, 3, 4, 5, 6, 7, 8, 9, 10, 11, 12, 13, 14, 15] (by decide) (by decide)]; rfl
omit [FloatOps F] in
theorem unscopedSems0_eq (c : Dev nD) : (unscopedSems0 c : sProp 𝕄) = semVal (kcell (c, barC)) 0 := by
  unfold unscopedSems0; rw [bigSep_eq_bigSepL_of_eq [SemLoc.reg barS] (by decide) (by decide)]; rfl
omit [FloatOps F] in
theorem sems_eq (c : Dev nD) : (bigSep Finset.univ fun k : Cl => semVal (kcell (c, k)) 0 : sProp 𝕄)
    = iprop(unscopedSems0 c ∗ Pipeline.ownSems0 (Ix := Unit) (Name := ℕ) (U := UU) (Lvl := ℕ) (Val := Elt F) (τ := τ) osem c) := by
  rw [ownSems0_eq, unscopedSems0_eq, bigSep_univ_eq_bigSepL cellList (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Cl => semVal (kcell (c, k)) 0) ∗ bigSep Finset.univ fun k : Cl => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : Dev nD × Cl → ℕ) (c : Dev nD) :
    iprop(records m K ∗ (bigSep Finset.univ fun k : Cl => atPos ER (kcell (c, k)) 0 ∅ 0) ∗ toks c) ⊢ G' m c := by
  unfold G' toks
  iintro ⟨#Hr, Hat, Htok⟩
  iexists K
  isplitr; · iexact Hr
  isplitl [Hat]
  · unfold posns
    iapply (Entails.of_eq (bigSep_congr (s := Finset.univ) fun (k : Cl) _ => (if_neg (List.not_mem_nil (a := k))).symm)) $$ Hat
  iapply (toks_split c); iexact Htok

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cl => iprop(∃ κ : ℕ, cellInv ER (Rd m) κ (kcell ck))),
    bigSep_congr (s := Finset.univ) (fun (c : Dev nD) _ => bigSep_sep' Finset.univ (fun k : Cl => (atPos ER (kcell (c, k)) 0 ∅ 0 : sProp 𝕄)) (fun k => reached ER (kcell (c, k)) 0)),
    bigSep_sep', ← bigSep_univ_prod (fun ck : Dev nD × Cl => (reached ER (kcell ck) 0 : sProp 𝕄))]
  iintro ⟨HI, ⟨Hat, #HR⟩, Htok⟩
  ihave HK := (BI.bigSep_exists_pi Finset.univ (fun (ck : Dev nD × Cl) (κ : ℕ) => (cellInv ER (Rd m) κ (kcell ck) : sProp 𝕄))) $$ HI
  icases HK with ⟨%K, #HI⟩
  iapply (bigSep_beside (R := records m K) fun c _ => deal m K c)
  isplitr
  · unfold records; rw [bigSep_sep']; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ room bany bpts
  iintro ⟨Hs, -, H0, H1, H2, H3⟩
  isplitl [Hs]; · iexact Hs
  isplitl [H0 H1]
  · isplitl [H0] <;> iassumption
  · isplitl [H2] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems_eq]
  unfold room bany bpts
  iintro ⟨⟨Hu, Ho⟩, ⟨H0, H1⟩, H2, H3⟩
  isplitl [Hu]; · iexact Hu
  isplitl [Ho]; · iexact Ho
  isplitl [H0]; · iexact H0
  isplitl [H1]; · iexact H1
  isplitl [H2] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, on the eight devices and for any float values: every weakly
    fair execution ends, each array at the contents the data says and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays end with -/

/-- The result's contents after the run. -/
def outFinal (c : Dev nD) : Buf (Elt F) ((c : Thread nD τ).loc main_v1) := finalA m ρ c (5 : Fin 6)

/-- The arguments end as they began, the result at `outFinal` and the counters at zero. -/
theorem run_all : θ_run defs (onTc (τ := τ) (main (F := F))) ⟨m, fun _ => 0, ρ⟩ (fun r =>
    (∀ c : Dev nD, r.2.mem ((c.tc : Thread nD τ).loc main_v1) = outFinal m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => ⟨h.1 c (5 : Fin 6),
      (h.1 c (0 : Fin 6)).trans ((dats m ρ 0 c).arrAt_in (0 : Fin 6) rfl _),
      (h.1 c (1 : Fin 6)).trans ((dats m ρ 0 c).arrAt_in (1 : Fin 6) rfl _),
      (h.1 c (2 : Fin 6)).trans ((dats m ρ 0 c).arrAt_in (2 : Fin 6) rfl _),
      (h.1 c (3 : Fin 6)).trans ((dats m ρ 0 c).arrAt_in (3 : Fin 6) rfl _),
      (h.1 c (4 : Fin 6)).trans ((dats m ρ 0 c).arrAt_in (4 : Fin 6) rfl _)⟩, h.2⟩) (run_main m ρ)

end Cert.KernelIdealProof

end
-- ==== Proof.Mask.lean ====
/-
The window of keys a query looks at, as the word both programs compare, and the coordinates the two
programs' arrays share.
-/
module

public import Idealize.ShloMosaic.Lib.Pointwise

@[expose] public section

noncomputable section

namespace Cert.Mask

open Idealize.ShloMosaic

/-- Whether query row `i` looks at key row `j`: their distance, at most 128, compared as words. -/
def near (i j : ℕ) : BitVec 1 :=
  IntOp.cmpi CmpIPredicate.sle (IntOp.absi (IntOp.subi (BitVec.ofNat 32 i) (BitVec.ofNat 32 j))) 128#32

theorem near_self (i : ℕ) : near i i = 1 := by
  unfold near IntOp.subi
  rw [BitVec.sub_self]
  decide

/-- A row within the first 256 looks at no key past the first 384. -/
theorem lt_of_near {i j : ℕ} (hi : i < 256) (hj : j < 2048) (h : near i j = 1) : j < 384 := by
  by_contra hn
  have hs : BitVec.ofNat 32 i - BitVec.ofNat 32 j = BitVec.ofInt 32 ((i : ℤ) - j) := by
    apply BitVec.eq_of_toInt_eq
    rw [BitVec.toInt_sub, BitVec.toInt_ofInt, BitVec.toInt_ofNat', BitVec.toInt_ofNat']
    simp only [Int.bmod_def]
    omega
  unfold near IntOp.cmpi IntOp.absi IntOp.subi at h
  rw [hs] at h
  have hneg : -(BitVec.ofInt 32 ((i : ℤ) - j)) = BitVec.ofInt 32 ((j : ℤ) - i) := by
    apply BitVec.eq_of_toInt_eq
    rw [BitVec.toInt_neg, BitVec.toInt_ofInt, BitVec.toInt_ofInt]
    simp only [Int.bmod_def]
    omega
  have hm : (BitVec.ofInt 32 ((i : ℤ) - j)).msb = true := by
    rw [BitVec.msb_eq_toInt, BitVec.toInt_ofInt]
    simp only [Int.bmod_def, decide_eq_true_eq]
    omega
  rw [if_pos hm, hneg] at h
  have hf : (BitVec.ofInt 32 ((j : ℤ) - i)).sle 128#32 = false := by
    rw [BitVec.sle_eq_decide, BitVec.toInt_ofInt]
    simp only [Int.bmod_def, decide_eq_false_iff_not]
    have : (128#32).toInt = 128 := by decide
    omega
  simp only [hf] at h
  exact absurd h (by decide)

/-- The head a column of the queries belongs to, its coordinate within the head, and the column of both. -/
def hd (c : Fin 256) : Fin 4 := ⟨c.val / 64, by omega⟩
def dm (c : Fin 256) : Fin 64 := ⟨c.val % 64, by omega⟩
def col (h : Fin 4) (d : Fin 64) : Fin 256 := ⟨h.val * 64 + d.val, by omega⟩

/-- One of the 384 keys the kernel keeps, among all 2048. -/
def wide (j : Fin 384) : Fin 2048 := ⟨j.val, by omega⟩

end Cert.Mask

end
-- ==== Proof.KI.Value.lean ====
/-
What the kernel's arithmetic gives at an index, over the extended reals: the vector operations read
down to sums and quotients of the arguments' elements, the landed keys and values to the rows of the
whole arrays they came from.
-/
module

public import proofs.«01_k».proof.Proof.KI.Launch
public import proofs.«01_k».proof.Proof.Mask
public import Idealize.ShloMosaic.Lib.Pointwise
public import Idealize.ShloMosaic.Lib.Layout

@[expose] public section

noncomputable section

namespace Cert.KernelIdealProof

open Cert.KernelIdeal Cert.KernelIdeal.Gen
open Idealize.ShloMosaic
open Idealize.ShloMosaic.TcCoe
open Idealize.ShloMosaic.Pipeline (Dat Cfg Window cellOf)
open Cert.Mask

/-! ## The arithmetic at an index -/

theorem queries_at (x : Vec Ideal S1x256x512 .bf16) (wq : Vec Ideal S512x256 .bf16) (i c : Fin 256) :
    queries x wq (ix2 i c) = ∑ e : Fin 512, x (ix3 0 i e) * wq (ix2 e c) := by
  pointwise [queries]

theorem rows_at (a : Vec Ideal S1x256x1x64 .bf16) (b : Vec Ideal S1x128x1x64 .bf16) (j : Fin 384) (d : Fin 64) :
    rows a b (ix2 j d) = if h : j.val < 256 then a (ix4 0 ⟨j.val, h⟩ 0 d) else b (ix4 0 ⟨j.val - 256, by omega⟩ 0 d) := by
  pointwise [rows]

theorem wts_at (q : FVec Ideal S256x64 .bf16) (k : FVec Ideal S384x64 .bf16) (i : Fin 256) (j : Fin 384) :
    wts q k (ix2 i j) = if near i j = 1 then Ideal.exp ((∑ d : Fin 64, q (ix2 i d) * k (ix2 j d)) * Ideal.ofBits .f32 0x3E000000#32) else 0 := by
  pointwise [wts, msk, k0_pay7, k0_pay6]
  rfl

theorem head_at (q : FVec Ideal S256x64 .bf16) (k v : FVec Ideal S384x64 .bf16) (i : Fin 256) (d : Fin 64) :
    head q k v (ix2 i d) = Ideal.div (∑ j : Fin 384, wts q k (ix2 i j) * v (ix2 j d)) (∑ j : Fin 384, wts q k (ix2 i j)) := by
  pointwise [head]

/-- The weight of a key in head `h`, from all the heads' queries. -/
def wgt (q : FVec Ideal S256x256 .bf16) (k : FVec Ideal S384x64 .bf16) (h : Fin 4) (i : Fin 256) (j : Fin 384) : EReal :=
  if near i j = 1 then Ideal.exp ((∑ d : Fin 64, q (ix2 i (col h d)) * k (ix2 j d)) * Ideal.ofBits .f32 0x3E000000#32) else 0

/-- A head on the columns of its number. -/
theorem head_col (q : FVec Ideal S256x256 .bf16) (q' : FVec Ideal S256x64 .bf16) (h : Fin 4) (hq : ∀ i d, q' (ix2 i d) = q (ix2 i (col h d)))
    (k v : FVec Ideal S384x64 .bf16) (i : Fin 256) (d : Fin 64) :
    head q' k v (ix2 i d) = Ideal.div (∑ j : Fin 384, wgt q k h i j * v (ix2 j d)) (∑ j : Fin 384, wgt q k h i j) := by
  rw [head_at]
  simp only [wts_at, hq]
  rfl

theorem entry_at (q : FVec Ideal S256x256 .bf16) (k v : Fin 4 → FVec Ideal S384x64 .bf16) (wo : Vec Ideal S256x512 .bf16) (i : Fin 256) (o : Fin 512) :
    entry q k v wo (ix3 0 i o) = ∑ c : Fin 256, Ideal.div (∑ j : Fin 384, wgt q (k (hd c)) (hd c) i j * v (hd c) (ix2 j (dm c)))
      (∑ j : Fin 384, wgt q (k (hd c)) (hd c) i j) * wo (ix2 c o) := by
  have h0 : ∀ i d, extractStridedSlice S256x64 ![0, 0] q slices_S256x256_o0_0_S256x64 (ix2 i d) = q (ix2 i (col 0 d)) := fun i d => by
    pointwise; exact congrArg (fun c => q (ix2 i c)) (Fin.ext (by show _ = 0 * 64 + d.val; simp))
  have h1 : ∀ i d, extractStridedSlice S256x64 ![0, 64] q slices_S256x256_o0_64_S256x64 (ix2 i d) = q (ix2 i (col 1 d)) := fun i d => by
    pointwise; exact congrArg (fun c => q (ix2 i c)) (Fin.ext (by show _ = 1 * 64 + d.val; simp))
  have h2 : ∀ i d, extractStridedSlice S256x64 ![0, 128] q slices_S256x256_o0_128_S256x64 (ix2 i d) = q (ix2 i (col 2 d)) := fun i d => by
    pointwise; exact congrArg (fun c => q (ix2 i c)) (Fin.ext (by show _ = 2 * 64 + d.val; simp))
  have h3 : ∀ i d, extractStridedSlice S256x64 ![0, 192] q slices_S256x256_o0_192_S256x64 (ix2 i d) = q (ix2 i (col 3 d)) := fun i d => by
    pointwise; exact congrArg (fun c => q (ix2 i c)) (Fin.ext (by show _ = 3 * 64 + d.val; simp))
  pointwise [entry]
  refine Finset.sum_congr rfl fun c _ => congrArg (· * wo (ix2 c o)) ?_
  have hc := c.isLt
  simp only [head_col q _ 0 h0, head_col q _ 1 h1, head_col q _ 2 h2, head_col q _ 3 h3]
  have pick : ∀ (h : Fin 4) (d : Fin 64), hd c = h → dm c = d →
      Ideal.div (∑ j : Fin 384, wgt q (k h) h i j * v h (ix2 j d)) (∑ j : Fin 384, wgt q (k h) h i j)
        = Ideal.div (∑ j : Fin 384, wgt q (k (hd c)) (hd c) i j * v (hd c) (ix2 j (dm c))) (∑ j : Fin 384, wgt q (k (hd c)) (hd c) i j) := by
    rintro h d rfl rfl; rfl
  by_cases c0 : c.val < 64
  · rw [dif_pos c0]
    exact pick 0 ⟨c.val, c0⟩ (Fin.ext (by show c.val / 64 = 0; omega)) (Fin.ext (by show c.val % 64 = c.val; omega))
  rw [dif_neg c0]
  by_cases c1 : c.val - 64 < 64
  · rw [dif_pos c1]
    exact pick 1 ⟨c.val - 64, c1⟩ (Fin.ext (by show c.val / 64 = 1; omega)) (Fin.ext (by show c.val % 64 = c.val - 64; omega))
  rw [dif_neg c1]
  by_cases c2 : c.val - 64 - 64 < 64
  · rw [dif_pos c2]
    exact pick 2 ⟨c.val - 64 - 64, c2⟩ (Fin.ext (by show c.val / 64 = 2; omega)) (Fin.ext (by show c.val % 64 = c.val - 64 - 64; omega))
  rw [dif_neg c2]
  exact pick 3 ⟨c.val - 64 - 64 - 64, by omega⟩ (Fin.ext (by show c.val / 64 = 3; omega)) (Fin.ext (by show c.val % 64 = c.val - 64 - 64 - 64; omega))

/-! ## What is staged and what has landed -/

variable (m : (ℓ : Loc nD τ sig) → Buf (Elt Ideal) ℓ) (ρ : Dev nD → PrngReg)

theorem xst_eq (c : Dev nD) : xst m c = m ((c : Thread nD τ).loc main_arg0) :=
  Memref.read_access_unit_zero (Elt Ideal) main_arg0
    (show (fun a => (win0_0.index (0 : Fin 1)) a * main_arg0.ty.shape.size a) = fun _ => 0 from
      funext fun a => by fin_cases a <;> decide) (fun a => by fin_cases a <;> decide) _
theorem wqst_eq (c : Dev nD) : wqst m c = m ((c : Thread nD τ).loc main_arg1) :=
  Memref.read_access_unit_zero (Elt Ideal) main_arg1
    (show (fun a => (win0_1.index (0 : Fin 1)) a * main_arg1.ty.shape.size a) = fun _ => 0 from
      funext fun a => by fin_cases a <;> decide) (fun a => by fin_cases a <;> decide) _
theorem kst_eq (c : Dev nD) : kst m c = m ((c : Thread nD τ).loc main_arg2) :=
  Memref.read_access_unit_zero (Elt Ideal) main_arg2
    (show (fun a => (win0_2.index (0 : Fin 1)) a * main_arg2.ty.shape.size a) = fun _ => 0 from
      funext fun a => by fin_cases a <;> decide) (fun a => by fin_cases a <;> decide) _
theorem vst_eq (c : Dev nD) : vst m c = m ((c : Thread nD τ).loc main_arg3) :=
  Memref.read_access_unit_zero (Elt Ideal) main_arg3
    (show (fun a => (win0_3.index (0 : Fin 1)) a * main_arg3.ty.shape.size a) = fun _ => 0 from
      funext fun a => by fin_cases a <;> decide) (fun a => by fin_cases a <;> decide) _
theorem wost_eq (c : Dev nD) : wost m c = m ((c : Thread nD τ).loc main_arg4) :=
  Memref.read_access_unit_zero (Elt Ideal) main_arg4
    (show (fun a => (win0_4.index (0 : Fin 1)) a * main_arg4.ty.shape.size a) = fun _ => 0 from
      funext fun a => by fin_cases a <;> decide) (fun a => by fin_cases a <;> decide) _

theorem xRow_at (x : (cc0_stg0_0 : Ref sig .tc).ty.Contents (Elt Ideal)) (b : Fin 2) (i : Fin 256) (e : Fin 512) :
    xRow x b (ix3 0 i e) = x (ix3 b i e) := by
  refine congrArg x (funext fun a => Fin.ext ?_)
  fin_cases a
  · show b.val + 1 * 0 = b.val; omega
  · show 0 + 1 * i.val = i.val; omega
  · show 0 + 1 * e.val = e.val; omega

variable {m} in
/-- Device 0's block over the first half of device 1's is the first 384 rows of the whole array. -/
theorem rows_eq (k0 k1 : FVec Ideal S2x256x4x64 .bf16) (K : (⟨4, ![2, 2048, 4, 64]⟩ : Shape).Idx → EReal)
    (h0 : k0 = Layout.block ⟨4, ![2, 256, 4, 64]⟩ ⟨4, ![2, 2048, 4, 64]⟩ 1 8 (0 : Dev nD) K) (h1 : k1 = Layout.block ⟨4, ![2, 256, 4, 64]⟩ ⟨4, ![2, 2048, 4, 64]⟩ 1 8 (1 : Dev nD) K)
    (a : Vec Ideal S1x256x1x64 .bf16) (a' : Vec Ideal S1x128x1x64 .bf16) (b : Fin 2) (h : Fin 4)
    (ha : ∀ (j : Fin 256) d, a (ix4 0 j 0 d) = k0 (ix4 b j h d)) (ha' : ∀ (j : Fin 128) d, a' (ix4 0 j 0 d) = k1 (ix4 b ⟨j.val, by omega⟩ h d))
    (j : Fin 384) (d : Fin 64) : rows a a' (ix2 j d) = K (ix4 b (wide j) h d) := by
  rw [rows_at]
  split
  · rw [ha, h0, Layout.block_apply]
    refine congrArg K (funext fun t => Fin.ext ?_)
    fin_cases t
    · rfl
    · show 0 * 256 + j.val = j.val; omega
    · rfl
    · rfl
  · rw [ha', h1, Layout.block_apply]
    refine congrArg K (funext fun t => Fin.ext ?_)
    fin_cases t
    · rfl
    · show 1 * 256 + (j.val - 256) = j.val; omega
    · rfl
    · rfl

theorem pay2_eq (v : Vec Ideal S2x256x4x64 .bf16) : k0_pay2 v = v := by
  unfold k0_pay2; dsimp only; rw [shapeCast_self, shapeCast_self]
theorem pay3_eq (v : Vec Ideal S2x256x4x64 .bf16) : k0_pay3 v = v := by
  unfold k0_pay3; dsimp only; rw [shapeCast_self, shapeCast_self]
theorem pay4_eq (v : Vec Ideal S2x128x4x64 .bf16) : k0_pay4 v = v := by
  unfold k0_pay4; dsimp only; rw [shapeCast_self, shapeCast_self]
theorem pay5_eq (v : Vec Ideal S2x128x4x64 .bf16) : k0_pay5 v = v := by
  unfold k0_pay5; dsimp only; rw [shapeCast_self, shapeCast_self]

/-- The landed rows of a batch entry and a head, at their coordinates in the staged block: a whole block's, -/
theorem emb_whole (b : Fin 2) (h : Fin 4) (j : Fin 256) (d : Fin 64) : (rKV b h).idx (ix4 0 j 0 d) = ix4 b j h d := by
  refine funext fun a => Fin.ext ?_
  fin_cases a
  · show b.val + 1 * 0 = b.val; omega
  · show 0 + 1 * j.val = j.val; omega
  · show h.val + 1 * 0 = h.val; omega
  · show 0 + 1 * d.val = d.val; omega
/-- and a first half's. -/
theorem emb_half (b : Fin 2) (h : Fin 4) (j : Fin 128) (d : Fin 64) : rHalf.idx ((rKV' b h).idx (ix4 0 j 0 d)) = ix4 b ⟨j.val, by omega⟩ h d := by
  refine funext fun a => Fin.ext ?_
  fin_cases a
  · show 0 + 1 * (b.val + 1 * 0) = b.val; omega
  · show 0 + 1 * (0 + 1 * j.val) = j.val; omega
  · show 0 + 1 * (h.val + 1 * 0) = h.val; omega
  · show 0 + 1 * (0 + 1 * d.val) = d.val; omega

theorem kRows_at (K : (⟨4, ![2, 2048, 4, 64]⟩ : Shape).Idx → EReal)
    (hK : ∀ c : Dev nD, m ((c : Thread nD τ).loc main_arg2) = Layout.block ⟨4, ![2, 256, 4, 64]⟩ ⟨4, ![2, 2048, 4, 64]⟩ 1 8 c K)
    (b : Fin 2) (h : Fin 4) (j : Fin 384) (d : Fin 64) : kRows m b h (ix2 j d) = K (ix4 b (wide j) h d) := by
  have e0 : cont m (false, false) = kst m 0 := pay2_eq (kst m 0)
  have e1 : cont m (true, false) = (Memref.whole cc0_stg2_0 : Memref sig .tc .vmem S2x256x4x64 .bf16).view.readAt (Elt Ideal) rHalf.toLoadRect (kst m 1) :=
    pay4_eq ((Memref.whole cc0_stg2_0 : Memref sig .tc .vmem S2x256x4x64 .bf16).view.readAt (Elt Ideal) rHalf.toLoadRect (kst m 1))
  unfold kRows
  rw [e0, e1]
  exact rows_eq (kst m 0) (kst m 1) K ((kst_eq m 0).trans (hK 0)) ((kst_eq m 1).trans (hK 1)) _ _ b h
    (fun j d => congrArg (kst m 0) (emb_whole b h j d)) (fun j d => congrArg (kst m 1) (emb_half b h j d)) j d

theorem vRows_at (V : (⟨4, ![2, 2048, 4, 64]⟩ : Shape).Idx → EReal)
    (hV : ∀ c : Dev nD, m ((c : Thread nD τ).loc main_arg3) = Layout.block ⟨4, ![2, 256, 4, 64]⟩ ⟨4, ![2, 2048, 4, 64]⟩ 1 8 c V)
    (b : Fin 2) (h : Fin 4) (j : Fin 384) (d : Fin 64) : vRows m b h (ix2 j d) = V (ix4 b (wide j) h d) := by
  have e0 : cont m (false, true) = vst m 0 := pay3_eq (vst m 0)
  have e1 : cont m (true, true) = (Memref.whole cc0_stg3_0 : Memref sig .tc .vmem S2x256x4x64 .bf16).view.readAt (Elt Ideal) rHalf.toLoadRect (vst m 1) :=
    pay5_eq ((Memref.whole cc0_stg3_0 : Memref sig .tc .vmem S2x256x4x64 .bf16).view.readAt (Elt Ideal) rHalf.toLoadRect (vst m 1))
  unfold vRows
  rw [e0, e1]
  exact rows_eq (vst m 0) (vst m 1) V ((vst_eq m 0).trans (hV 0)) ((vst_eq m 1).trans (hV 1)) _ _ b h
    (fun j d => congrArg (vst m 0) (emb_whole b h j d)) (fun j d => congrArg (vst m 1) (emb_half b h j d)) j d

/-! ## The result -/

/-- The result array ends as what the device stored. -/
theorem outFinal_eq (c : Dev nD) : outFinal m ρ c = outAt m c := by
  have hr : ∀ f : Buf (Elt Ideal) ((c : Thread nD τ).loc main_v1), (win0_5.blk (0 : Fin 1)).view.read (Elt Ideal) f = f := fun f =>
    Memref.read_access_unit_zero (Elt Ideal) main_v1
      (show (fun a => (win0_5.index (0 : Fin 1)) a * main_v1.ty.shape.size a) = fun _ => 0 from
        funext fun a => by fin_cases a <;> decide) (fun a => by fin_cases a <;> decide) f
  have hw : ((cfg0.win (5 : Fin 6)).blk (0 : Fin 1)).view.read (Elt Ideal) (outFinal m ρ c) = (dats m ρ 0 c).flushed (5 : Fin 6) (0 : Fin 1) := by
    unfold outFinal finalA
    rw [show cfg0.N = (0 : Fin 1).val + 1 from rfl, (dats m ρ 0 c).arrAt_succ (5 : Fin 6) (0 : Fin 1), show (cfg0.win (5 : Fin 6)).flush (0 : Fin 1) = true from by decide, if_pos rfl]
    exact View.read_write_univ _ _
  refine ((hr _).symm.trans hw).trans ?_
  show (cfg0.win (5 : Fin 6)).cut _ (outAt m c) = _
  exact funext fun _ => rfl

/-- The result of every device at an index, from the whole arrays. -/
theorem outAt_at (X : FVec Ideal S2x256x512 .bf16) (W : FVec Ideal S512x256 .bf16) (K V : (⟨4, ![2, 2048, 4, 64]⟩ : Shape).Idx → EReal) (O : FVec Ideal S256x512 .bf16)
    (c : Dev nD) (hX : m ((c : Thread nD τ).loc main_arg0) = X) (hW : m ((c : Thread nD τ).loc main_arg1) = W) (hO : m ((c : Thread nD τ).loc main_arg4) = O)
    (hK : ∀ c : Dev nD, m ((c : Thread nD τ).loc main_arg2) = Layout.block ⟨4, ![2, 256, 4, 64]⟩ ⟨4, ![2, 2048, 4, 64]⟩ 1 8 c K)
    (hV : ∀ c : Dev nD, m ((c : Thread nD τ).loc main_arg3) = Layout.block ⟨4, ![2, 256, 4, 64]⟩ ⟨4, ![2, 2048, 4, 64]⟩ 1 8 c V)
    (w : Fin 2 → Fin 4 → Fin 256 → Fin 384 → EReal)
    (hw : ∀ b h i j, w b h i j = if near i j = 1 then Ideal.exp ((∑ d : Fin 64, (∑ e : Fin 512, X (ix3 b i e) * W (ix2 e (col h d))) * K (ix4 b (wide j) h d))
      * Ideal.ofBits .f32 0x3E000000#32) else 0)
    (b : Fin 2) (i : Fin 256) (o : Fin 512) : outAt m c (ix3 b i o)
      = ∑ a : Fin 256, Ideal.div (∑ j : Fin 384, w b (hd a) i j * V (ix4 b (wide j) (hd a) (dm a))) (∑ j : Fin 384, w b (hd a) i j) * O (ix2 a o) := by
  have hf : flat (ix3 b i o) = ix3 0 i o := funext fun a => by fin_cases a <;> rfl
  have hq : ∀ i a, queries (xRow (xst m c) b) (wqst m c) (ix2 i a) = ∑ e : Fin 512, X (ix3 b i e) * W (ix2 e a) := fun i a => by
    rw [queries_at, xst_eq, wqst_eq, hX, hW]
    exact Finset.sum_congr rfl fun e _ => congrArg (· * W (ix2 e a)) (xRow_at X b i e)
  have hg : ∀ h i j, wgt (queries (xRow (xst m c) b) (wqst m c)) (kRows m b h) h i j = w b h i j := fun h i j => by
    unfold wgt
    simp only [hq, kRows_at m K hK]
    exact (hw b h i j).symm
  have hs : outAt m c (ix3 b i o) = res m c b (flat (ix3 b i o)) := rfl
  rw [hs, hf, res, entry_at, wost_eq, hO]
  simp only [hg, vRows_at m V hV]

end Cert.KernelIdealProof

end
-- ==== Proof.Softmax.lean ====
/-
One row of a masked softmax over the extended reals. Dividing by the exponentials' sum after the
weighted sum, without subtracting the row's maximum first, gives what the textbook's order gives:
the scores kept by the mask have to be finite, the values weighed need not be.
-/
module

public import Idealize.ShloMosaic.Lib.Pointwise

@[expose] public section

noncomputable section

namespace Cert.Softmax

open Idealize.ShloMosaic

/-- A finite factor that is not negative goes through a sum of extended reals. -/
theorem mul_sum_coe {J : Type*} (s : Finset J) (c : ℝ) (hc : 0 ≤ c) (f : J → EReal) :
    (c : EReal) * ∑ j ∈ s, f j = ∑ j ∈ s, (c : EReal) * f j := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- A sum of reals, read in the extended reals. -/
theorem coe_sum {J : Type*} (s : Finset J) (f : J → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem div_coe (x : EReal) (c : ℝ) (hc : 0 < c) : Ideal.div x (c : EReal) = ((c⁻¹ : ℝ) : EReal) * x := by
  have h : (c : EReal) ≠ 0 := by exact_mod_cast hc.ne'
  rw [Ideal.div, if_neg h, ← EReal.coe_inv, mul_comm]

variable {J : Type} [Fintype J] (mask : J → Prop) [DecidablePred mask] (r v : J → EReal)

/-- The row's scores, those masked away at minus infinity. -/
def score (j : J) : EReal := if mask j then r j else ⊥
/-- The row's greatest score. -/
def top : EReal := Finset.univ.fold max ⊥ (score mask r)
/-- The exponential of a kept score. -/
def kept (j : J) : EReal := if mask j then Ideal.exp (r j) else 0

variable {mask r} in
theorem top_real (hr : ∀ j, mask j → r j ≠ ⊤ ∧ r j ≠ ⊥) (hm : ∃ j, mask j) : ∃ M : ℝ, top mask r = (M : EReal) := by
  have ht : top mask r ≠ ⊤ := by
    refine ne_of_lt ((Finset.fold_max_lt _).mpr ⟨bot_lt_top, fun j _ => ?_⟩)
    unfold score
    split
    · exact lt_top_iff_ne_top.mpr (hr j ‹_›).1
    · exact bot_lt_top
  have hb : top mask r ≠ ⊥ := by
    obtain ⟨j, hj⟩ := hm
    refine ne_of_gt (lt_of_lt_of_le (bot_lt_iff_ne_bot.mpr (hr j hj).2) ?_)
    refine (Finset.le_fold_max _).mpr (.inr ⟨j, Finset.mem_univ j, ?_⟩)
    unfold score; rw [if_pos hj]
  exact ⟨(top mask r).toReal, (EReal.coe_toReal ht hb).symm⟩

/-- The row: the textbook's softmax weights against the values, and the sum weighed by the
    exponentials over their sum. -/
theorem row (hr : ∀ j, mask j → r j ≠ ⊤ ∧ r j ≠ ⊥) (hm : ∃ j, mask j) :
    ∑ j, v j * Ideal.div (Ideal.exp (score mask r j - top mask r)) (∑ j, Ideal.exp (score mask r j - top mask r))
      = Ideal.div (∑ j, kept mask r j * v j) (∑ j, kept mask r j) := by
  obtain ⟨M, hM⟩ := top_real hr hm
  rw [hM]
  set P : J → ℝ := fun j => if mask j then Real.exp (r j).toReal else 0 with hP
  have hkept : ∀ j, kept mask r j = (P j : EReal) := by
    intro j
    unfold kept
    by_cases h : mask j
    · rw [if_pos h, hP]
      dsimp only
      rw [if_pos h]
      conv_lhs => rw [← EReal.coe_toReal (hr j h).1 (hr j h).2]
      rfl
    · rw [if_neg h, hP]
      dsimp only
      rw [if_neg h, EReal.coe_zero]
  have hE : ∀ j, Ideal.exp (score mask r j - (M : EReal)) = ((P j * Real.exp (-M) : ℝ) : EReal) := by
    intro j
    unfold score
    by_cases h : mask j
    · rw [if_pos h, hP]
      dsimp only
      rw [if_pos h]
      conv_lhs => rw [← EReal.coe_toReal (hr j h).1 (hr j h).2]
      rw [← EReal.coe_sub, ← Real.exp_add, ← sub_eq_add_neg]
      rfl
    · rw [if_neg h, hP]
      dsimp only
      rw [if_neg h, EReal.bot_sub, zero_mul, EReal.coe_zero]
      rfl
  have hP0 : ∀ j, 0 ≤ P j := fun j => by rw [hP]; dsimp only; split <;> positivity
  have hL : 0 < ∑ j, P j := by
    obtain ⟨j, hj⟩ := hm
    refine Finset.sum_pos' (fun j _ => hP0 j) ⟨j, Finset.mem_univ j, ?_⟩
    rw [hP]; dsimp only; rw [if_pos hj]; positivity
  have he := Real.exp_pos (-M)
  simp only [hkept, hE]
  rw [← coe_sum, ← coe_sum, ← Finset.sum_mul, div_coe _ _ hL, mul_sum_coe _ _ (inv_nonneg.mpr hL.le)]
  refine Finset.sum_congr rfl fun j _ => ?_
  rw [div_coe _ _ (mul_pos hL he), ← EReal.coe_mul, mul_comm (v j), ← mul_assoc ((_ : ℝ) : EReal), ← EReal.coe_mul]
  congr 2
  field_simp

/-- The scores have to be finite: a row of one key with the score infinity, its value one, has minus
    infinity on the textbook's side and zero on the other. -/
theorem row_infinite : (∑ j : Fin 1, (1 : EReal) * Ideal.div (Ideal.exp (score (fun _ => True) (fun _ : Fin 1 => ⊤) j - top (fun _ => True) fun _ : Fin 1 => ⊤))
      (∑ j : Fin 1, Ideal.exp (score (fun _ => True) (fun _ : Fin 1 => ⊤) j - top (fun _ => True) fun _ : Fin 1 => ⊤)))
    ≠ Ideal.div (∑ j : Fin 1, kept (fun _ => True) (fun _ : Fin 1 => ⊤) j * 1) (∑ j : Fin 1, kept (fun _ => True) (fun _ : Fin 1 => ⊤) j) := by
  have ht : top (fun _ => True) (fun _ : Fin 1 => (⊤ : EReal)) = ⊤ := by simp [top, score]
  have he : Ideal.exp (⊤ - ⊤) = 0 := rfl
  have hk : kept (fun _ => True) (fun _ : Fin 1 => (⊤ : EReal)) 0 = ⊤ := rfl
  have hs : score (fun _ => True) (fun _ : Fin 1 => (⊤ : EReal)) 0 = ⊤ := rfl
  simp [ht, he, hk, hs, Ideal.div]

/-- A sum whose terms past the first `n` vanish. -/
theorem sum_first {N n : ℕ} (hn : n ≤ N) (f : Fin N → EReal) (h : ∀ j, n ≤ j.val → f j = 0) :
    ∑ j, f j = ∑ j : Fin n, f ⟨j.val, j.isLt.trans_le hn⟩ := by
  obtain ⟨k, rfl⟩ := Nat.exists_eq_add_of_le hn
  rw [Fin.sum_univ_add, Finset.sum_eq_zero (s := (Finset.univ : Finset (Fin k))), add_zero]
  · rfl
  · intro j _
    exact h _ (Nat.le_add_right n j.val)

end Cert.Softmax

end
-- ==== Proof.Ref.lean ====
/-
The reference read at an index, over the extended reals: its masked softmax over all the keys is, for
finite scores, the kernel's quotient over the first 384 keys.
-/
module

public import proofs.«01_k».proof.Proof.Gen.ReferenceIdeal.Run
public import proofs.«01_k».proof.Proof.Softmax
public import proofs.«01_k».proof.Proof.Mask

@[expose] public section

noncomputable section

namespace Cert.RefSide

open Cert.ReferenceIdeal Cert.ReferenceIdeal.Gen
open Idealize.ShloMosaic
open Idealize.ShloMosaic.TcCoe

variable (x : FVec Ideal S2x256x512 .bf16) (wq : FVec Ideal S512x256 .bf16) (k v : FVec Ideal S2x2048x4x64 .bf16) (wo : FVec Ideal S256x512 .bf16)

/-- Whether a query keeps a key. -/
def window : IVec S256x2048 1 :=
  cmpi .sle (absi (subi (broadcastInDim S256x2048 ![0, 1] bcast_S256x1_S256x2048_0_1 (broadcastInDim S256x1 ![0] bcast_S256_S256x1_0 (iotaInDim S256 32 0)))
    (broadcastInDim S256x2048 ![0, 1] bcast_S1x2048_S256x2048_0_1 (broadcastInDim S1x2048 ![1] bcast_S2048_S1x2048_1 (iotaInDim S2048 32 0)))))
    (broadcastInDim S256x2048 ![] bcast_S_S256x2048 (constantI S_ 32 128#32))

/-- Whether a query keeps any key. -/
def anyKept : IVec S256 1 := Host.reduce IntOp.ori window (constantI S_ 1 0#1) reducesTo_S256x2048_S256_d1 h_S_

/-- The scores before the mask. -/
def raw : FVec Ideal S2x4x256x2048 .f32 :=
  mulf (extf .f32 (truncf .bf16 (Host.dotGeneral dot_S2x256x4x64_S2x2048x4x64_S2x4x256x2048_3_3_1_1_02_02 none
    (shapeCast S2x256x4x64 (truncf .bf16 (Host.dotGeneral dot_S2x256x512_S512x256_S2x256x256_2_0_01_1_n_n none x wq : FVec Ideal S2x256x256 .f32) bitsLt_bf16_f32) shapeCasts_S2x256x256_S2x256x4x64 : FVec Ideal S2x256x4x64 .bf16) k
    : FVec Ideal S2x4x256x2048 .f32) bitsLt_bf16_f32) bitsLt_bf16_f32)
    (broadcastInDim S2x4x256x2048 ![] bcast_S_S2x4x256x2048 (constant S_ .f32 0x3E000000#32))

/-- The scores, those masked away at minus infinity. -/
def scored : FVec Ideal S2x4x256x2048 .f32 :=
  select (broadcastInDim S2x4x256x2048 ![0, 1, 2, 3] bcast_S1x1x256x2048_S2x4x256x2048_0_1_2_3 (broadcastInDim S1x1x256x2048 ![2, 3] bcast_S256x2048_S1x1x256x2048_2_3 window))
    (raw x wq k) (broadcastInDim S2x4x256x2048 ![] bcast_S_S2x4x256x2048 (id (constant S_ .f32 0xFF800000#32)))

/-- Each query's greatest score. -/
def greatest : FVec Ideal S2x4x256 .f32 :=
  Host.reduce FloatOps.maximumf (scored x wq k) (constant S_ .f32 0xFF800000#32) reducesTo_S2x4x256x2048_S2x4x256_d3 h_S_

/-- The exponentials of the scores less the greatest. -/
def exps : FVec Ideal S2x4x256x2048 .f32 :=
  Host.exp (subf (scored x wq k) (broadcastInDim S2x4x256x2048 ![0, 1, 2, 3] bcast_S2x4x256x1_S2x4x256x2048_0_1_2_3
    (broadcastInDim S2x4x256x1 ![0, 1, 2] bcast_S2x4x256_S2x4x256x1_0_1_2 (greatest x wq k))))

/-- The exponentials' sums. -/
def sums : FVec Ideal S2x4x256 .f32 :=
  Host.reduceAdd (exps x wq k) (constant S_ .f32 0x00000000#32) reducesTo_S2x4x256x2048_S2x4x256_d3 h_S_

/-- The softmax weights. -/
def weights : FVec Ideal S2x4x256x2048 .f32 :=
  select (broadcastInDim S2x4x256x2048 ![0, 1, 2, 3] bcast_S1x1x256x1_S2x4x256x2048_0_1_2_3 (broadcastInDim S1x1x256x1 ![2] bcast_S256_S1x1x256x1_2 anyKept))
    (Host.divf (exps x wq k) (broadcastInDim S2x4x256x2048 ![0, 1, 2, 3] bcast_S2x4x256x1_S2x4x256x2048_0_1_2_3
      (select (broadcastInDim S2x4x256x1 ![0, 1, 2, 3] bcast_S1x1x256x1_S2x4x256x1_0_1_2_3 (broadcastInDim S1x1x256x1 ![2] bcast_S256_S1x1x256x1_2 anyKept))
        (broadcastInDim S2x4x256x1 ![0, 1, 2] bcast_S2x4x256_S2x4x256x1_0_1_2 (sums x wq k))
        (broadcastInDim S2x4x256x1 ![] bcast_S_S2x4x256x1 (id (constant S_ .f32 0x3F800000#32))))))
    (broadcastInDim S2x4x256x2048 ![] bcast_S_S2x4x256x2048 (id (constant S_ .f32 0x00000000#32)))

/-- The reference's result. -/
def out : FVec Ideal S2x256x512 .f32 :=
  Host.dotGeneral dot_S2x256x256_S256x512_S2x256x512_2_0_01_1_n_n none
    (shapeCast S2x256x256 (transpose S2x256x4x64 [0, 3, 1, 2]
      (Host.dotGeneral dot_S2x2048x4x64_S2x4x256x2048_S2x4x64x256_1_3_3_2_02_01 none v (weights x wq k) : FVec Ideal S2x4x64x256 .f32)
      transposes_S2x4x64x256_S2x256x4x64_0_3_1_2 : FVec Ideal S2x256x4x64 .f32) shapeCasts_S2x256x4x64_S2x256x256 : FVec Ideal S2x256x256 .f32) wo

theorem ofBits_bot : Ideal.ofBits .f32 0xFF800000#32 = ⊥ := by
  simp [Ideal.ofBits, Ideal.ieee]

/-- The reference program's result is these operations of its arguments. -/
theorem res_eq (m : (ℓ : Loc nD τ sig) → Buf (Elt Ideal) ℓ) (c : Dev nD) :
    Value.res_main_v37 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem window_at (i : Fin 256) (j : Fin 2048) : window (ix2 i j) = Mask.near i j := by
  pointwise [window]
  rfl

/-- Every query keeps a key: its own row's. -/
theorem anyKept_at (i : Fin 256) : anyKept (ix1 i) = 1 := by
  pointwise [anyKept]
  have hw : window (ix2 i ⟨i.val, by omega⟩) = 1 := (window_at i _).trans (Mask.near_self _)
  have key : ∀ s : Finset (Fin 2048), (⟨i.val, by omega⟩ : Fin 2048) ∈ s → Finset.fold IntOp.ori (0#1) (fun j => window (ix2 i j)) s = 1 := by
    intro s hs
    rw [← Finset.insert_erase hs, Finset.fold_insert (Finset.notMem_erase _ _), hw]
    generalize Finset.fold IntOp.ori (0#1) _ _ = z
    revert z; decide
  exact key _ (Finset.mem_univ _)

/-- The score of a query against a key, before the mask. -/
theorem raw_at (b : Fin 2) (h : Fin 4) (i : Fin 256) (j : Fin 2048) : raw x wq k (ix4 b h i j)
    = (∑ d : Fin 64, (∑ e : Fin 512, x (ix3 b i e) * wq (ix2 e (Mask.col h d))) * k (ix4 b j h d)) * Ideal.ofBits .f32 0x3E000000#32 := by
  pointwise [raw]
  rfl

theorem scored_at (b : Fin 2) (h : Fin 4) (i : Fin 256) (j : Fin 2048) : scored x wq k (ix4 b h i j)
    = Softmax.score (fun j : Fin 2048 => Mask.near i j = 1) (fun j => raw x wq k (ix4 b h i j)) j := by
  pointwise [scored]
  rw [window_at]
  show Scalar.select _ _ (Ideal.ofBits .f32 0xFF800000#32) = _
  rw [ofBits_bot]
  rfl

theorem greatest_at (b : Fin 2) (h : Fin 4) (i : Fin 256) : greatest x wq k (ix3 b h i)
    = Softmax.top (fun j : Fin 2048 => Mask.near i j = 1) (fun j => raw x wq k (ix4 b h i j)) := by
  pointwise [greatest]
  rw [ofBits_bot]
  unfold Softmax.top
  simp only [scored_at]

theorem exps_at (b : Fin 2) (h : Fin 4) (i : Fin 256) (j : Fin 2048) : exps x wq k (ix4 b h i j)
    = Ideal.exp (Softmax.score (fun j : Fin 2048 => Mask.near i j = 1) (fun j => raw x wq k (ix4 b h i j)) j
      - Softmax.top (fun j : Fin 2048 => Mask.near i j = 1) (fun j => raw x wq k (ix4 b h i j))) := by
  pointwise [exps]
  rw [scored_at, greatest_at]

theorem weights_at (b : Fin 2) (h : Fin 4) (i : Fin 256) (j : Fin 2048) : weights x wq k (ix4 b h i j)
    = Ideal.div (exps x wq k (ix4 b h i j)) (∑ j : Fin 2048, exps x wq k (ix4 b h i j)) := by
  have hs : sums x wq k (ix3 b h i) = ∑ j : Fin 2048, exps x wq k (ix4 b h i j) := by pointwise [sums]
  pointwise [weights]
  rw [anyKept_at, hs]
  rfl

/-- The weight the kernel gives one of the keys it keeps. -/
def kept (b : Fin 2) (h : Fin 4) (i : Fin 256) (j : Fin 384) : EReal :=
  if Mask.near i j = 1 then Ideal.exp (raw x wq k (ix4 b h i (Mask.wide j))) else 0

variable {x wq k} in
/-- One head's context: the softmax over all the keys is the kernel's quotient over those it keeps. -/
theorem ctx_at (hr : ∀ (b : Fin 2) (h : Fin 4) (i : Fin 256) (j : Fin 2048), Mask.near i j = 1 → raw x wq k (ix4 b h i j) ≠ ⊤ ∧ raw x wq k (ix4 b h i j) ≠ ⊥)
    (b : Fin 2) (h : Fin 4) (i : Fin 256) (d : Fin 64) :
    ∑ j : Fin 2048, v (ix4 b j h d) * weights x wq k (ix4 b h i j)
      = Ideal.div (∑ j : Fin 384, kept x wq k b h i j * v (ix4 b (Mask.wide j) h d)) (∑ j : Fin 384, kept x wq k b h i j) := by
  have hm : ∃ j : Fin 2048, Mask.near i j = 1 := ⟨⟨i.val, by omega⟩, Mask.near_self _⟩
  have row := Softmax.row (fun j : Fin 2048 => Mask.near i j = 1) (fun j => raw x wq k (ix4 b h i j)) (fun j => v (ix4 b j h d)) (hr b h i) hm
  have hz : ∀ j : Fin 2048, 384 ≤ j.val → Softmax.kept (fun j : Fin 2048 => Mask.near i j = 1) (fun j => raw x wq k (ix4 b h i j)) j = 0 := fun j hj =>
    if_neg fun hn => by have := Mask.lt_of_near i.isLt j.isLt hn; omega
  rw [Softmax.sum_first (n := 384) (by norm_num) _ hz,
    Softmax.sum_first (n := 384) (by norm_num) (fun j => Softmax.kept _ _ j * v (ix4 b j h d)) fun j hj => by rw [hz j hj, zero_mul]] at row
  simp only [weights_at, exps_at]
  exact row

variable {x wq k} in
/-- The reference's result at an index. -/
theorem out_at (hr : ∀ (b : Fin 2) (h : Fin 4) (i : Fin 256) (j : Fin 2048), Mask.near i j = 1 → raw x wq k (ix4 b h i j) ≠ ⊤ ∧ raw x wq k (ix4 b h i j) ≠ ⊥)
    (b : Fin 2) (i : Fin 256) (o : Fin 512) : out x wq k v wo (ix3 b i o)
      = ∑ c : Fin 256, Ideal.div (∑ j : Fin 384, kept x wq k b (Mask.hd c) i j * v (ix4 b (Mask.wide j) (Mask.hd c) (Mask.dm c)))
          (∑ j : Fin 384, kept x wq k b (Mask.hd c) i j) * wo (ix2 c o) := by
  pointwise [out]
  refine Finset.sum_congr rfl fun c _ => ?_
  rw [← ctx_at v hr]
  rfl

end Cert.RefSide

end
-- ==== Proof.Finite.lean ====
/-
What the precondition says of an array's elements, and that a score made of such elements is a real
number.
-/
module

public import proofs.«01_k».proof.Pre_finite_scores_KernelIdeal
public import proofs.«01_k».proof.Pre_finite_scores_ReferenceIdeal
public import proofs.«01_k».proof.Proof.Softmax
public import Idealize.ShloMosaic.Lib.ReduceAll

@[expose] public section

noncomputable section

namespace Cert.Finite

open Idealize.ShloMosaic

theorem pre_facts : Cert.Pre_finite_scores_KernelIdeal.Facts where
  bitsLt_bf16_f32 := by decide
  bcast_S_S2x256x512 := by decide
  reducesTo_S2x256x512_S_d0_1_2 := by decide
  h_S_ := by decide
  bcast_S_S512x256 := by decide
  reducesTo_S512x256_S_d0_1 := by decide
  bcast_S_S2x256x4x64 := by decide
  reducesTo_S2x256x4x64_S_d0_1_2_3 := by decide

theorem pre_facts_reference : Cert.Pre_finite_scores_ReferenceIdeal.Facts where
  bitsLt_bf16_f32 := by decide
  bcast_S_S2x256x512 := by decide
  reducesTo_S2x256x512_S_d0_1_2 := by decide
  h_S_ := by decide
  bcast_S_S512x256 := by decide
  reducesTo_S512x256_S_d0_1 := by decide
  bcast_S_S2x2048x4x64 := by decide
  reducesTo_S2x2048x4x64_S_d0_1_2_3 := by decide

/-- An extended real that is a real. -/
def IsReal (x : EReal) : Prop := ∃ r : ℝ, x = (r : EReal)

theorem IsReal.ne {x : EReal} (h : IsReal x) : x ≠ ⊤ ∧ x ≠ ⊥ := by
  obtain ⟨r, rfl⟩ := h
  exact ⟨EReal.coe_ne_top r, EReal.coe_ne_bot r⟩
theorem IsReal.mul {x y : EReal} (hx : IsReal x) (hy : IsReal y) : IsReal (x * y) := by
  obtain ⟨r, rfl⟩ := hx
  obtain ⟨t, rfl⟩ := hy
  exact ⟨r * t, (EReal.coe_mul r t).symm⟩
theorem IsReal.sum {J : Type} [Fintype J] {f : J → EReal} (h : ∀ j, IsReal (f j)) : IsReal (∑ j, f j) := by
  choose g hg using h
  exact ⟨∑ j, g j, by rw [Softmax.coe_sum]; exact Finset.sum_congr rfl fun j _ => hg j⟩

theorem eighth : IsReal (Ideal.ofBits .f32 0x3E000000#32) := by
  refine ⟨1 / 8, ?_⟩
  simp [Ideal.ofBits, Ideal.ieee, -EReal.coe_mul]
  norm_num

/-- A magnitude below infinity is a real's. -/
theorem of_below (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have hl : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  obtain ⟨h1, h2⟩ := max_lt_iff.mp hl
  have hb : x ≠ ⊥ := by rintro rfl; exact absurd h2 (by simp)
  exact ⟨x.toReal, (EReal.coe_toReal h1.ne hb).symm⟩

open Cert.Pre_finite_scores_KernelIdeal in
/-- The precondition on one device's blocks: every element of the three arrays is a real. -/
theorem of_pre (h : Facts) (x : FVec Ideal S2x256x512 .bf16) (w : FVec Ideal S512x256 .bf16) (k v : FVec Ideal S2x256x4x64 .bf16) (o : FVec Ideal S256x512 .bf16)
    (hp : fn (F := Ideal) x w k v o = fun _ => 1#1) : (∀ i, IsReal (x i)) ∧ (∀ i, IsReal (w i)) ∧ ∀ i, IsReal (k i) := by
  have hp := congrFun hp (fun a => a.elim0)
  unfold fn at hp
  obtain ⟨h12, h3⟩ := IntOp.andi_eq_one.1 hp
  obtain ⟨h1, h2⟩ := IntOp.andi_eq_one.1 h12
  have : Subsingleton S_.Idx := ⟨fun a b => funext fun t => t.elim0⟩
  exact ⟨fun i => of_below _ (Host.reduce_andi_all _ _ _ _ _ h1 i), fun i => of_below _ (Host.reduce_andi_all _ _ _ _ _ h2 i),
    fun i => of_below _ (Host.reduce_andi_all _ _ _ _ _ h3 i)⟩

end Cert.Finite

end
-- ==== Proof.lean ====
/-
The certificate: every program runs, keeps its arguments and ends with every counter at zero, and over
the extended reals every device's result is the reference's.
-/
module

public import proofs.«01_k».proof.Defs
public import proofs.«01_k».proof.Proof.KI.Value
public import proofs.«01_k».proof.Proof.K.Launch
public import proofs.«01_k».proof.Proof.Ref
public import proofs.«01_k».proof.Proof.Finite
public import proofs.«01_k».proof.Proof.Gen.Kernel
public import proofs.«01_k».proof.Proof.Gen.KernelIdeal
public import proofs.«01_k».proof.Proof.Gen.ReferenceIdeal.Run
public import proofs.«01_k».proof.Proof.Gen.Reference.Run
public import Idealize.ShloMosaic.Lib.Quiescent

@[expose] public section

noncomputable section

namespace Cert.Proof

open Idealize.ShloMosaic Idealize.SL.Sem

section Value

open Idealize.ShloMosaic.TcCoe Cert.Finite

variable (m : (ℓ : Loc KernelIdeal.nD KernelIdeal.τ KernelIdeal.sig) → Buf (Elt Ideal) ℓ)
  (X : FVec Ideal ⟨3, ![2, 256, 512]⟩ .bf16) (W : FVec Ideal ⟨2, ![512, 256]⟩ .bf16) (K V : FVec Ideal ⟨4, ![2, 2048, 4, 64]⟩ .bf16) (O : FVec Ideal ⟨2, ![256, 512]⟩ .bf16)

/-- Every device's result is the reference's of the whole arrays, the scores' inputs being finite on
    every device. -/
theorem result_eq (hp : @Cert.Pre_KernelIdeal_finite_scores_KernelIdeal pre_facts m)
    (hX : ∀ c : Dev KernelIdeal.nD, m ((c : Thread KernelIdeal.nD KernelIdeal.τ).loc KernelIdeal.main_arg0) = X)
    (hW : ∀ c : Dev KernelIdeal.nD, m ((c : Thread KernelIdeal.nD KernelIdeal.τ).loc KernelIdeal.main_arg1) = W)
    (hK : ∀ c : Dev KernelIdeal.nD, m ((c : Thread KernelIdeal.nD KernelIdeal.τ).loc KernelIdeal.main_arg2) = Layout.block ⟨4, ![2, 256, 4, 64]⟩ ⟨4, ![2, 2048, 4, 64]⟩ 1 8 c K)
    (hV : ∀ c : Dev KernelIdeal.nD, m ((c : Thread KernelIdeal.nD KernelIdeal.τ).loc KernelIdeal.main_arg3) = Layout.block ⟨4, ![2, 256, 4, 64]⟩ ⟨4, ![2, 2048, 4, 64]⟩ 1 8 c V)
    (hO : ∀ c : Dev KernelIdeal.nD, m ((c : Thread KernelIdeal.nD KernelIdeal.τ).loc KernelIdeal.main_arg4) = O) (c : Dev KernelIdeal.nD) :
    KernelIdealProof.outAt m c = RefSide.out X W K V O := by
  have fin := fun c => of_pre pre_facts _ _ _ _ _ (hp c)
  have fX : ∀ i, IsReal (X i) := by rw [← hX 0]; exact (fin 0).1
  have fW : ∀ i, IsReal (W i) := by rw [← hW 0]; exact (fin 0).2.1
  have fK : ∀ (b : Fin 2) (j : Fin 2048) (h : Fin 4) (d : Fin 64), IsReal (K (ix4 b j h d)) := by
    intro b j h d
    have hc : j.val / 256 < 8 := by omega
    have := (fin (⟨j.val / 256, hc⟩ : Dev KernelIdeal.nD)).2.2 (ix4 b (⟨j.val % 256, by omega⟩ : Fin 256) h d)
    rw [hK, Layout.block_apply] at this
    refine (congrArg (fun i => IsReal (K i)) (funext fun t => Fin.ext ?_)).mp this
    fin_cases t
    · rfl
    · show j.val / 256 * 256 + j.val % 256 = j.val; omega
    · rfl
    · rfl
  have hr : ∀ (b : Fin 2) (h : Fin 4) (i : Fin 256) (j : Fin 2048), Mask.near i j = 1 → RefSide.raw X W K (ix4 b h i j) ≠ ⊤ ∧ RefSide.raw X W K (ix4 b h i j) ≠ ⊥ := by
    intro b h i j _
    rw [RefSide.raw_at]
    exact ((IsReal.sum fun d => (IsReal.sum fun e => (fX _).mul (fW _)).mul (fK _ _ _ _)).mul eighth).ne
  funext i
  have hi : i = ix3 (i 0) (i 1) (i 2) := funext fun a => by fin_cases a <;> rfl
  rw [hi]
  refine (KernelIdealProof.outAt_at m X W K V O c (hX c) (hW c) (hO c) hK hV (fun b h i j => RefSide.kept X W K b h i j) (fun b h i j => ?_) _ _ _).trans
    (RefSide.out_at V O hr _ _ _).symm
  unfold RefSide.kept
  rw [RefSide.raw_at]

end Value

/-- The kernel's result is the reference's. -/
theorem algebraic : @Cert.algebraic_KernelIdeal_ReferenceIdeal_pre_finite_scores_KernelIdeal Cert.KernelIdeal.Gen.facts Cert.ReferenceIdeal.Gen.facts Finite.pre_facts := by
  intro m g m' g' hp hm
  refine ⟨Cert.ReferenceIdeal.Value.res_main_v37 m' 0, (θ_run _ _ _).mono (fun _ h c => ⟨?_, (h.1 c).2⟩) (Cert.KernelIdealProof.run_all m g),
    (θ_run _ _ _).mono (fun _ h => h 0) (Cert.ReferenceIdeal.Value.run m' g')⟩
  refine (h.1 c).1.trans ((KernelIdealProof.outFinal_eq m g c).trans ?_)
  rw [RefSide.res_eq]
  exact result_eq m _ _ _ _ _ hp (fun c => (hm c).1) (fun c => (hm c).2.1) (fun c => (hm c).2.2.1) (fun c => (hm c).2.2.2.1) (fun c => (hm c).2.2.2.2) c

theorem claim : Cert.Claim := ⟨Cert.Kernel.Gen.facts, Cert.KernelIdeal.Gen.facts, Cert.ReferenceIdeal.Gen.facts, Cert.Reference.Gen.facts, Finite.pre_facts, Finite.pre_facts_reference,
  fun m g _ => (θ_run _ _ _).mono (fun _ h => ⟨fun c => (h.1 c).2, h.2⟩) (Cert.KernelProof.run_all m g),
  fun m g _ => (θ_run _ _ _).mono (fun _ h => ⟨fun c => (h.1 c).2, h.2⟩) (Cert.KernelIdealProof.run_all m g),
  fun m g _ => (θ_run _ _ _).mono (fun _ h => ⟨fun c => (h.1 c).2, h.2⟩) (Cert.KernelIdealProof.run_all m g),
  fun m g _ => (θ_run _ _ _).mono (fun _ h => ⟨fun c => (h c).2, sem_eq_zero_of_no_sems rfl _⟩) (Cert.ReferenceIdeal.Value.run m g),
  fun m g _ => (θ_run _ _ _).mono (fun _ h => ⟨fun c => (h c).2, sem_eq_zero_of_no_sems rfl _⟩) (Cert.ReferenceIdeal.Value.run m g),
  fun m g _ => (θ_run _ _ _).mono (fun _ h => ⟨fun c => (h c).2, sem_eq_zero_of_no_sems rfl _⟩) (Cert.Reference.Value.run m g),
  trivial, trivial, algebraic⟩

end Cert.Proof

end
